-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S16384x48 : Shape := ⟨2, ![16384, 48]⟩
abbrev S16384x50x16 : Shape := ⟨3, ![16384, 50, 16]⟩
abbrev S16384x50x50 : Shape := ⟨3, ![16384, 50, 50]⟩
abbrev S16384x1 : Shape := ⟨2, ![16384, 1]⟩
abbrev S16x64 : Shape := ⟨2, ![16, 64]⟩
abbrev S64 : Shape := ⟨1, ![64]⟩
abbrev S64x64 : Shape := ⟨2, ![64, 64]⟩
abbrev S112x64 : Shape := ⟨2, ![112, 64]⟩
abbrev S64x5 : Shape := ⟨2, ![64, 5]⟩
abbrev S5 : Shape := ⟨1, ![5]⟩
abbrev S_ : Shape := ⟨0, ![]⟩
abbrev S16384x50 : Shape := ⟨2, ![16384, 50]⟩
abbrev S16384x50x1 : Shape := ⟨3, ![16384, 50, 1]⟩

class Facts : Prop where
  bcast_S_S16384x1 : S_.BroadcastsInDim S16384x1 (![] : Fin 0 → Fin S16384x1.rank)
  reducesTo_S16384x50x50_S16384x50_d2 : S16384x50x50.ReducesTo [2] S16384x50
  h_S_ : 0 < S_.numel
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S_S16384x48 : S_.BroadcastsInDim S16384x48 (![] : Fin 0 → Fin S16384x48.rank)
  bcast_S_S16384x50x16 : S_.BroadcastsInDim S16384x50x16 (![] : Fin 0 → Fin S16384x50x16.rank)
  bcast_S_S16384x50x50 : S_.BroadcastsInDim S16384x50x50 (![] : Fin 0 → Fin S16384x50x50.rank)
  bcast_S_S16x64 : S_.BroadcastsInDim S16x64 (![] : Fin 0 → Fin S16x64.rank)
  bcast_S_S64 : S_.BroadcastsInDim S64 (![] : Fin 0 → Fin S64.rank)
  bcast_S_S64x64 : S_.BroadcastsInDim S64x64 (![] : Fin 0 → Fin S64x64.rank)
  bcast_S_S112x64 : S_.BroadcastsInDim S112x64 (![] : Fin 0 → Fin S112x64.rank)
  bcast_S_S64x5 : S_.BroadcastsInDim S64x5 (![] : Fin 0 → Fin S64x5.rank)
  bcast_S_S5 : S_.BroadcastsInDim S5 (![] : Fin 0 → Fin S5.rank)

variable [Facts]

def fn_part2 {F : FTy → Type} [FloatOps F] (main_arg9 : FVec F S64 .f32) (main_arg10 : FVec F S64x64 .f32) (main_arg11 : FVec F S64 .f32) (main_arg12 : FVec F S64x5 .f32) (main_arg13 : FVec F S5 .f32) (main_v4 : IVec S16384x1 1) (main_v10 : IVec S16384x50x1 1) (main_v13 : IVec S16384x48 1) (main_v16 : IVec S16384x50x16 1) (main_v19 : IVec S16384x50x50 1) (main_v22 : IVec S16x64 1) (main_v25 : IVec S64 1) (main_v28 : IVec S64x64 1) (main_v31 : IVec S64 1) (main_v34 : IVec S112x64 1) : IVec S16384x1 1 × IVec S16384x50x1 1 × IVec S16384x48 1 × IVec S16384x50x16 1 × IVec S16384x50x50 1 × IVec S16x64 1 × IVec S64 1 × IVec S64x64 1 × IVec S64 1 × IVec S112x64 1 × IVec S64 1 × IVec S64x64 1 × IVec S64 1 × IVec S64x5 1 × IVec S5 1 :=
  let main_v35 : FVec F S64 .f32 := Host.absf main_arg9
  let main_cst_11 : FVec F S_ .f32 := constant S_ .f32 0x7F800000#32
  let main_v36 : FVec F S64 .f32 := broadcastInDim S64 ![] bcast_S_S64 main_cst_11
  let main_v37 : IVec S64 1 := cmpf .olt main_v35 main_v36
  let main_v38 : FVec F S64x64 .f32 := Host.absf main_arg10
  let main_cst_12 : FVec F S_ .f32 := constant S_ .f32 0x7F800000#32
  let main_v39 : FVec F S64x64 .f32 := broadcastInDim S64x64 ![] bcast_S_S64x64 main_cst_12
  let main_v40 : IVec S64x64 1 := cmpf .olt main_v38 main_v39
  let main_v41 : FVec F S64 .f32 := Host.absf main_arg11
  let main_cst_13 : FVec F S_ .f32 := constant S_ .f32 0x7F800000#32
  let main_v42 : FVec F S64 .f32 := broadcastInDim S64 ![] bcast_S_S64 main_cst_13
  let main_v43 : IVec S64 1 := cmpf .olt main_v41 main_v42
  let main_v44 : FVec F S64x5 .f32 := Host.absf main_arg12
  let main_cst_14 : FVec F S_ .f32 := constant S_ .f32 0x7F800000#32
  let main_v45 : FVec F S64x5 .f32 := broadcastInDim S64x5 ![] bcast_S_S64x5 main_cst_14
  let main_v46 : IVec S64x5 1 := cmpf .olt main_v44 main_v45
  let main_v47 : FVec F S5 .f32 := Host.absf main_arg13
  let main_cst_15 : FVec F S_ .f32 := constant S_ .f32 0x7F800000#32
  let main_v48 : FVec F S5 .f32 := broadcastInDim S5 ![] bcast_S_S5 main_cst_15
  let main_v49 : IVec S5 1 := cmpf .olt main_v47 main_v48
  (main_v4, main_v10, main_v13, main_v16, main_v19, main_v22, main_v25, main_v28, main_v31, main_v34, main_v37, main_v40, main_v43, main_v46, main_v49)

def fn_part1 {F : FTy → Type} [FloatOps F] (main_arg2 : FVec F S16384x50x50 .f32) (main_arg4 : FVec F S16x64 .f32) (main_arg5 : FVec F S64 .f32) (main_arg6 : FVec F S64x64 .f32) (main_arg7 : FVec F S64 .f32) (main_arg8 : FVec F S112x64 .f32) (main_arg9 : FVec F S64 .f32) (main_arg10 : FVec F S64x64 .f32) (main_arg11 : FVec F S64 .f32) (main_arg12 : FVec F S64x5 .f32) (main_arg13 : FVec F S5 .f32) (main_v4 : IVec S16384x1 1) (main_v10 : IVec S16384x50x1 1) (main_v13 : IVec S16384x48 1) (main_v16 : IVec S16384x50x16 1) : IVec S16384x1 1 × IVec S16384x50x1 1 × IVec S16384x48 1 × IVec S16384x50x16 1 × IVec S16384x50x50 1 × IVec S16x64 1 × IVec S64 1 × IVec S64x64 1 × IVec S64 1 × IVec S112x64 1 × IVec S64 1 × IVec S64x64 1 × IVec S64 1 × IVec S64x5 1 × IVec S5 1 :=
  let main_v17 : FVec F S16384x50x50 .f32 := Host.absf main_arg2
  let main_cst_5 : FVec F S_ .f32 := constant S_ .f32 0x7F800000#32
  let main_v18 : FVec F S16384x50x50 .f32 := broadcastInDim S16384x50x50 ![] bcast_S_S16384x50x50 main_cst_5
  let main_v19 : IVec S16384x50x50 1 := cmpf .olt main_v17 main_v18
  let main_v20 : FVec F S16x64 .f32 := Host.absf main_arg4
  let main_cst_6 : FVec F S_ .f32 := constant S_ .f32 0x7F800000#32
  let main_v21 : FVec F S16x64 .f32 := broadcastInDim S16x64 ![] bcast_S_S16x64 main_cst_6
  let main_v22 : IVec S16x64 1 := cmpf .olt main_v20 main_v21
  let main_v23 : FVec F S64 .f32 := Host.absf main_arg5
  let main_cst_7 : FVec F S_ .f32 := constant S_ .f32 0x7F800000#32
  let main_v24 : FVec F S64 .f32 := broadcastInDim S64 ![] bcast_S_S64 main_cst_7
  let main_v25 : IVec S64 1 := cmpf .olt main_v23 main_v24
  let main_v26 : FVec F S64x64 .f32 := Host.absf main_arg6
  let main_cst_8 : FVec F S_ .f32 := constant S_ .f32 0x7F800000#32
  let main_v27 : FVec F S64x64 .f32 := broadcastInDim S64x64 ![] bcast_S_S64x64 main_cst_8
  let main_v28 : IVec S64x64 1 := cmpf .olt main_v26 main_v27
  let main_v29 : FVec F S64 .f32 := Host.absf main_arg7
  let main_cst_9 : FVec F S_ .f32 := constant S_ .f32 0x7F800000#32
  let main_v30 : FVec F S64 .f32 := broadcastInDim S64 ![] bcast_S_S64 main_cst_9
  let main_v31 : IVec S64 1 := cmpf .olt main_v29 main_v30
  let main_v32 : FVec F S112x64 .f32 := Host.absf main_arg8
  let main_cst_10 : FVec F S_ .f32 := constant S_ .f32 0x7F800000#32
  let main_v33 : FVec F S112x64 .f32 := broadcastInDim S112x64 ![] bcast_S_S112x64 main_cst_10
  let main_v34 : IVec S112x64 1 := cmpf .olt main_v32 main_v33
  fn_part2 (F := F) main_arg9 main_arg10 main_arg11 main_arg12 main_arg13 main_v4 main_v10 main_v13 main_v16 main_v19 main_v22 main_v25 main_v28 main_v31 main_v34

def fn {F : FTy → Type} [FloatOps F] (main_arg0 : FVec F S16384x48 .f32) (main_arg1 : FVec F S16384x50x16 .f32) (main_arg2 : FVec F S16384x50x50 .f32) (main_arg3 : IVec S16384x1 32) (main_arg4 : FVec F S16x64 .f32) (main_arg5 : FVec F S64 .f32) (main_arg6 : FVec F S64x64 .f32) (main_arg7 : FVec F S64 .f32) (main_arg8 : FVec F S112x64 .f32) (main_arg9 : FVec F S64 .f32) (main_arg10 : FVec F S64x64 .f32) (main_arg11 : FVec F S64 .f32) (main_arg12 : FVec F S64x5 .f32) (main_arg13 : FVec F S5 .f32) : IVec S16384x1 1 × IVec S16384x50x1 1 × IVec S16384x48 1 × IVec S16384x50x16 1 × IVec S16384x50x50 1 × IVec S16x64 1 × IVec S64 1 × IVec S64x64 1 × IVec S64 1 × IVec S112x64 1 × IVec S64 1 × IVec S64x64 1 × IVec S64 1 × IVec S64x5 1 × IVec S5 1 :=
  let main_c : IVec S_ 32 := constantI S_ 32 0#32
  let main_v0 : IVec S16384x1 32 := broadcastInDim S16384x1 ![] bcast_S_S16384x1 main_c
  let main_v1 : IVec S16384x1 1 := cmpi .sge main_arg3 main_v0
  let main_c_0 : IVec S_ 32 := constantI S_ 32 50#32
  let main_v2 : IVec S16384x1 32 := broadcastInDim S16384x1 ![] bcast_S_S16384x1 main_c_0
  let main_v3 : IVec S16384x1 1 := cmpi .slt main_arg3 main_v2
  let main_v4 : IVec S16384x1 1 := andi main_v1 main_v3
  let main_cst : FVec F S_ .f32 := constant S_ .f32 0x00000000#32
  let main_v5 : FVec F S16384x50 .f32 := (fun x v => Host.reduceAdd x v reducesTo_S16384x50x50_S16384x50_d2 h_S_) main_arg2 main_cst
  let main_v6 : FVec F S16384x50x1 .f32 := broadcastInDim S16384x50x1 ![0, 1] bcast_S16384x50_S16384x50x1_0_1 main_v5
  let main_cst_1 : FVec F S_ .f32 := constant S_ .f32 0x358637BD#32
  let main_v7 : FVec F S16384x50x1 .f32 := broadcastInDim S16384x50x1 ![] bcast_S_S16384x50x1 main_cst_1
  let main_v8 : FVec F S16384x50x1 .f32 := addf main_v6 main_v7
  let main_cst_2 : FVec F S_ .f32 := constant S_ .f32 0x00000000#32
  let main_v9 : FVec F S16384x50x1 .f32 := broadcastInDim S16384x50x1 ![] bcast_S_S16384x50x1 main_cst_2
  let main_v10 : IVec S16384x50x1 1 := cmpf .une main_v8 main_v9
  let main_v11 : FVec F S16384x48 .f32 := Host.absf main_arg0
  let main_cst_3 : FVec F S_ .f32 := constant S_ .f32 0x7F800000#32
  let main_v12 : FVec F S16384x48 .f32 := broadcastInDim S16384x48 ![] bcast_S_S16384x48 main_cst_3
  let main_v13 : IVec S16384x48 1 := cmpf .olt main_v11 main_v12
  let main_v14 : FVec F S16384x50x16 .f32 := Host.absf main_arg1
  let main_cst_4 : FVec F S_ .f32 := constant S_ .f32 0x7F800000#32
  let main_v15 : FVec F S16384x50x16 .f32 := broadcastInDim S16384x50x16 ![] bcast_S_S16384x50x16 main_cst_4
  let main_v16 : IVec S16384x50x16 1 := cmpf .olt main_v14 main_v15
  fn_part1 (F := F) main_arg2 main_arg4 main_arg5 main_arg6 main_arg7 main_arg8 main_arg9 main_arg10 main_arg11 main_arg12 main_arg13 main_v4 main_v10 main_v13 main_v16
-- ==== Kernel.lean ====
abbrev S16384x48 : Shape := ⟨2, ![16384, 48]⟩
abbrev S16384x50x16 : Shape := ⟨3, ![16384, 50, 16]⟩
abbrev S16384x50x50 : Shape := ⟨3, ![16384, 50, 50]⟩
abbrev S16384x1 : Shape := ⟨2, ![16384, 1]⟩
abbrev S16x64 : Shape := ⟨2, ![16, 64]⟩
abbrev S64 : Shape := ⟨1, ![64]⟩
abbrev S64x64 : Shape := ⟨2, ![64, 64]⟩
abbrev S112x64 : Shape := ⟨2, ![112, 64]⟩
abbrev S64x5 : Shape := ⟨2, ![64, 5]⟩
abbrev S5 : Shape := ⟨1, ![5]⟩
abbrev S48x64 : Shape := ⟨2, ![48, 64]⟩
abbrev S1x1x64 : Shape := ⟨3, ![1, 1, 64]⟩
abbrev S1x64 : Shape := ⟨2, ![1, 64]⟩
abbrev S1x5 : Shape := ⟨2, ![1, 5]⟩
abbrev S16384x16x50 : Shape := ⟨3, ![16384, 16, 50]⟩
abbrev S256x48 : Shape := ⟨2, ![256, 48]⟩
abbrev S256x16x50 : Shape := ⟨3, ![256, 16, 50]⟩
abbrev S256x50x50 : Shape := ⟨3, ![256, 50, 50]⟩
abbrev S256x1 : Shape := ⟨2, ![256, 1]⟩
abbrev S256x56x56 : Shape := ⟨3, ![256, 56, 56]⟩
abbrev S256x6x50 : Shape := ⟨3, ![256, 6, 50]⟩
abbrev S256x56x50 : Shape := ⟨3, ![256, 56, 50]⟩
abbrev S256x56x6 : Shape := ⟨3, ![256, 56, 6]⟩
abbrev S256x16x56 : Shape := ⟨3, ![256, 16, 56]⟩
abbrev S256x16x6 : Shape := ⟨3, ![256, 16, 6]⟩
abbrev S256x56 : Shape := ⟨2, ![256, 56]⟩
abbrev S256x56x1 : Shape := ⟨3, ![256, 56, 1]⟩
abbrev S256x56x64 : Shape := ⟨3, ![256, 56, 64]⟩
abbrev S256x1x1 : Shape := ⟨3, ![256, 1, 1]⟩
abbrev S256x64 : Shape := ⟨2, ![256, 64]⟩
abbrev S256x5 : Shape := ⟨2, ![256, 5]⟩
abbrev S256 : Shape := ⟨1, ![256]⟩

abbrev nBuf : Space → Nat
  | .hbm => 24
  | .vmem => 23
  | .smem => 0
  | _ => 0

abbrev bufTy : (tb : Table) → Fin (tcTables nBuf tb) → BufTy
  | .hbm, ⟨0, _⟩ => ⟨S16384x48, .f32⟩
  | .hbm, ⟨1, _⟩ => ⟨S16384x50x16, .f32⟩
  | .hbm, ⟨2, _⟩ => ⟨S16384x50x50, .f32⟩
  | .hbm, ⟨3, _⟩ => ⟨S16384x1, .i32⟩
  | .hbm, ⟨4, _⟩ => ⟨S16x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S112x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x5, .f32⟩
  | .hbm, ⟨13, _⟩ => ⟨S5, .f32⟩
  | .hbm, ⟨14, _⟩ => ⟨S48x64, .f32⟩
  | .hbm, ⟨15, _⟩ => ⟨S64x64, .f32⟩
  | .hbm, ⟨16, _⟩ => ⟨S1x1x64, .f32⟩
  | .hbm, ⟨17, _⟩ => ⟨S1x1x64, .f32⟩
  | .hbm, ⟨18, _⟩ => ⟨S1x64, .f32⟩
  | .hbm, ⟨19, _⟩ => ⟨S1x64, .f32⟩
  | .hbm, ⟨20, _⟩ => ⟨S1x5, .f32⟩
  | .hbm, ⟨21, _⟩ => ⟨S16384x16x50, .f32⟩
  | .hbm, ⟨22, _⟩ => ⟨S16384x1, .i32⟩
  | .hbm, ⟨23, _⟩ => ⟨S16384x1, .f32⟩
  | .local _ .vmem, ⟨0, _⟩ => ⟨S256x48, .f32⟩
  | .local _ .vmem, ⟨1, _⟩ => ⟨S256x48, .f32⟩
  | .local _ .vmem, ⟨2, _⟩ => ⟨S256x16x50, .f32⟩
  | .local _ .vmem, ⟨3, _⟩ => ⟨S256x16x50, .f32⟩
  | .local _ .vmem, ⟨4, _⟩ => ⟨S256x50x50, .f32⟩
  | .local _ .vmem, ⟨5, _⟩ => ⟨S256x50x50, .f32⟩
  | .local _ .vmem, ⟨6, _⟩ => ⟨S256x1, .i32⟩
  | .local _ .vmem, ⟨7, _⟩ => ⟨S256x1, .i32⟩
  | .local _ .vmem, ⟨8, _⟩ => ⟨S16x64, .f32⟩
  | .local _ .vmem, ⟨9, _⟩ => ⟨S1x1x64, .f32⟩
  | .local _ .vmem, ⟨10, _⟩ => ⟨S64x64, .f32⟩
  | .local _ .vmem, ⟨11, _⟩ => ⟨S1x1x64, .f32⟩
  | .local _ .vmem, ⟨12, _⟩ => ⟨S48x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S64x5, .f32⟩
  | .local _ .vmem, ⟨18, _⟩ => ⟨S1x5, .f32⟩
  | .local _ .vmem, ⟨19, _⟩ => ⟨S256x1, .i32⟩
  | .local _ .vmem, ⟨20, _⟩ => ⟨S256x1, .i32⟩
  | .local _ .vmem, ⟨21, _⟩ => ⟨S256x1, .f32⟩
  | .local _ .vmem, ⟨22, _⟩ => ⟨S256x1, .f32⟩
  | _, _ => ⟨S16384x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_v0_0 : Ref sig .tc := ⟨.hbm, 22, rfl⟩
abbrev main_v0_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x50x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x5 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16384x48 : Shape := ⟨2, ![16384, 48]⟩
abbrev S16384x50x16 : Shape := ⟨3, ![16384, 50, 16]⟩
abbrev S16384x50x50 : Shape := ⟨3, ![16384, 50, 50]⟩
abbrev S16384x1 : Shape := ⟨2, ![16384, 1]⟩
abbrev S16x64 : Shape := ⟨2, ![16, 64]⟩
abbrev S64 : Shape := ⟨1, ![64]⟩
abbrev S64x64 : Shape := ⟨2, ![64, 64]⟩
abbrev S112x64 : Shape := ⟨2, ![112, 64]⟩
abbrev S64x5 : Shape := ⟨2, ![64, 5]⟩
abbrev S5 : Shape := ⟨1, ![5]⟩
abbrev S_ : Shape := ⟨0, ![]⟩
abbrev S16384x50 : Shape := ⟨2, ![16384, 50]⟩
abbrev S16384x50x1 : Shape := ⟨3, ![16384, 50, 1]⟩
abbrev S16384x50x64 : Shape := ⟨3, ![16384, 50, 64]⟩
abbrev S1x1x64 : Shape := ⟨3, ![1, 1, 64]⟩
abbrev S16384x1x1 : Shape := ⟨3, ![16384, 1, 1]⟩
abbrev S16384x1x64 : Shape := ⟨3, ![16384, 1, 64]⟩
abbrev S16384x1x64x1 : Shape := ⟨4, ![16384, 1, 64, 1]⟩
abbrev S1 : Shape := ⟨1, ![1]⟩
abbrev S1x1x1x1 : Shape := ⟨4, ![1, 1, 1, 1]⟩
abbrev S16384x64 : Shape := ⟨2, ![16384, 64]⟩
abbrev S16384x112 : Shape := ⟨2, ![16384, 112]⟩
abbrev S1x64 : Shape := ⟨2, ![1, 64]⟩
abbrev S16384x5 : Shape := ⟨2, ![16384, 5]⟩
abbrev S1x5 : Shape := ⟨2, ![1, 5]⟩
abbrev S16384 : Shape := ⟨1, ![16384]⟩
abbrev S1x1x1 : Shape := ⟨3, ![1, 1, 1]⟩

abbrev nBuf : Space → Nat
  | .hbm => 125
  | .vmem => 0
  | .smem => 0
  | _ => 0

abbrev bufTy : (tb : Table) → Fin (tcTables nBuf tb) → BufTy
  | .hbm, ⟨0, _⟩ => ⟨S16384x48, .f32⟩
  | .hbm, ⟨1, _⟩ => ⟨S16384x50x16, .f32⟩
  | .hbm, ⟨2, _⟩ => ⟨S16384x50x50, .f32⟩
  | .hbm, ⟨3, _⟩ => ⟨S16384x1, .i32⟩
  | .hbm, ⟨4, _⟩ => ⟨S16x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S112x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x5, .f32⟩
  | .hbm, ⟨13, _⟩ => ⟨S5, .f32⟩
  | .hbm, ⟨14, _⟩ => ⟨S_, .f32⟩
  | .hbm, ⟨15, _⟩ => ⟨S16384x50, .f32⟩
  | .hbm, ⟨16, _⟩ => ⟨S16384x50x1, .f32⟩
  | .hbm, ⟨17, _⟩ => ⟨S_, .f32⟩
  | .hbm, ⟨18, _⟩ => ⟨S16384x50x1, .f32⟩
  | .hbm, ⟨19, _⟩ => ⟨S16384x50x1, .f32⟩
  | .hbm, ⟨20, _⟩ => ⟨S16384x50x50, .f32⟩
  | .hbm, ⟨21, _⟩ => ⟨S16384x50x50, .f32⟩
  | .hbm, ⟨22, _⟩ => ⟨S16384x50x64, .f32⟩
  | .hbm, ⟨23, _⟩ => ⟨S1x1x64, .f32⟩
  | .hbm, ⟨24, _⟩ => ⟨S16384x50x64, .f32⟩
  | .hbm, ⟨25, _⟩ => ⟨S16384x50x64, .f32⟩
  | .hbm, ⟨26, _⟩ => ⟨S_, .f32⟩
  | .hbm, ⟨27, _⟩ => ⟨S16384x50x64, .f32⟩
  | .hbm, ⟨28, _⟩ => ⟨S16384x50x64, .f32⟩
  | .hbm, ⟨29, _⟩ => ⟨S16384x50x64, .f32⟩
  | .hbm, ⟨30, _⟩ => ⟨S16384x50x64, .f32⟩
  | .hbm, ⟨31, _⟩ => ⟨S1x1x64, .f32⟩
  | .hbm, ⟨32, _⟩ => ⟨S16384x50x64, .f32⟩
  | .hbm, ⟨33, _⟩ => ⟨S16384x50x64, .f32⟩
  | .hbm, ⟨34, _⟩ => ⟨S_, .f32⟩
  | .hbm, ⟨35, _⟩ => ⟨S16384x50x64, .f32⟩
  | .hbm, ⟨36, _⟩ => ⟨S16384x50x64, .f32⟩
  | .hbm, ⟨37, _⟩ => ⟨S16384x50x64, .f32⟩
  | .hbm, ⟨38, _⟩ => ⟨S16384x1x1, .i32⟩
  | .hbm, ⟨39, _⟩ => ⟨S16384x1x64, .i32⟩
  | .hbm, ⟨40, _⟩ => ⟨S_, .i32⟩
  | .hbm, ⟨41, _⟩ => ⟨S16384x1x64, .i32⟩
  | .hbm, ⟨42, _⟩ => ⟨S16384x1x64, .i1⟩
  | .hbm, ⟨43, _⟩ => ⟨S_, .i32⟩
  | .hbm, ⟨44, _⟩ => ⟨S16384x1x64, .i32⟩
  | .hbm, ⟨45, _⟩ => ⟨S16384x1x64, .i32⟩
  | .hbm, ⟨46, _⟩ => ⟨S16384x1x64, .i32⟩
  | .hbm, ⟨47, _⟩ => ⟨S16384x1x64x1, .i32⟩
  | .hbm, ⟨48, _⟩ => ⟨S1, .i32⟩
  | .hbm, ⟨49, _⟩ => ⟨S_, .i32⟩
  | .hbm, ⟨50, _⟩ => ⟨S16384x1x64x1, .i32⟩
  | .hbm, ⟨51, _⟩ => ⟨S16384x1x64x1, .i1⟩
  | .hbm, ⟨52, _⟩ => ⟨S1x1x1x1, .i32⟩
  | .hbm, ⟨53, _⟩ => ⟨S16384x1x64x1, .i32⟩
  | .hbm, ⟨54, _⟩ => ⟨S16384x1x64x1, .i1⟩
  | .hbm, ⟨55, _⟩ => ⟨S16384x1x64x1, .i1⟩
  | .hbm, ⟨56, _⟩ => ⟨S_, .i1⟩
  | .hbm, ⟨57, _⟩ => ⟨S16384x1x64, .i1⟩
  | .hbm, ⟨58, _⟩ => ⟨S16384x1x64, .f32⟩
  | .hbm, ⟨59, _⟩ => ⟨S_, .f32⟩
  | .hbm, ⟨60, _⟩ => ⟨S16384x1x64, .f32⟩
  | .hbm, ⟨61, _⟩ => ⟨S16384x1x64, .f32⟩
  | .hbm, ⟨62, _⟩ => ⟨S16384x64, .f32⟩
  | .hbm, ⟨63, _⟩ => ⟨S16384x112, .f32⟩
  | .hbm, ⟨64, _⟩ => ⟨S16384x64, .f32⟩
  | .hbm, ⟨65, _⟩ => ⟨S1x64, .f32⟩
  | .hbm, ⟨66, _⟩ => ⟨S16384x64, .f32⟩
  | .hbm, ⟨67, _⟩ => ⟨S16384x64, .f32⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S1x64, .f32⟩
  | .hbm, ⟨73, _⟩ => ⟨S16384x64, .f32⟩
  | .hbm, ⟨74, _⟩ => ⟨S16384x64, .f32⟩
  | .hbm, ⟨75, _⟩ => ⟨S_, .f32⟩
  | .hbm, ⟨76, _⟩ => ⟨S16384x64, .f32⟩
  | .hbm, ⟨77, _⟩ => ⟨S16384x64, .f32⟩
  | .hbm, ⟨78, _⟩ => ⟨S16384x5, .f32⟩
  | .hbm, ⟨79, _⟩ => ⟨S1x5, .f32⟩
  | .hbm, ⟨80, _⟩ => ⟨S16384x5, .f32⟩
  | .hbm, ⟨81, _⟩ => ⟨S16384x5, .f32⟩
  | .hbm, ⟨82, _⟩ => ⟨S_, .f32⟩
  | .hbm, ⟨83, _⟩ => ⟨S16384, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S16384x1, .f32⟩
  | .hbm, ⟨88, _⟩ => ⟨S16384x5, .f32⟩
  | .hbm, ⟨89, _⟩ => ⟨S16384x5, .f32⟩
  | .hbm, ⟨90, _⟩ => ⟨S16384x5, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x1, .f32⟩
  | .hbm, ⟨95, _⟩ => ⟨S16384x5, .f32⟩
  | .hbm, ⟨96, _⟩ => ⟨S16384x5, .f32⟩
  | .hbm, ⟨97, _⟩ => ⟨S16384x5, .i32⟩
  | .hbm, ⟨98, _⟩ => ⟨S_, .f32⟩
  | .hbm, ⟨99, _⟩ => ⟨S_, .i32⟩
  | .hbm, ⟨100, _⟩ => ⟨S16384, .f32⟩
  | .hbm, ⟨101, _⟩ => ⟨S16384, .i32⟩
  | .hbm, ⟨102, _⟩ => ⟨S16384x1, .i32⟩
  | .hbm, ⟨103, _⟩ => ⟨S_, .i32⟩
  | .hbm, ⟨104, _⟩ => ⟨S16384x1, .i32⟩
  | .hbm, ⟨105, _⟩ => ⟨S16384x1, .i1⟩
  | .hbm, ⟨106, _⟩ => ⟨S_, .i32⟩
  | .hbm, ⟨107, _⟩ => ⟨S16384x1, .i32⟩
  | .hbm, ⟨108, _⟩ => ⟨S16384x1, .i32⟩
  | .hbm, ⟨109, _⟩ => ⟨S16384x1, .i32⟩
  | .hbm, ⟨110, _⟩ => ⟨S16384x1x1, .i32⟩
  | .hbm, ⟨111, _⟩ => ⟨S1, .i32⟩
  | .hbm, ⟨112, _⟩ => ⟨S_, .i32⟩
  | .hbm, ⟨113, _⟩ => ⟨S16384x1x1, .i32⟩
  | .hbm, ⟨114, _⟩ => ⟨S16384x1x1, .i1⟩
  | .hbm, ⟨115, _⟩ => ⟨S1x1x1, .i32⟩
  | .hbm, ⟨116, _⟩ => ⟨S16384x1x1, .i32⟩
  | .hbm, ⟨117, _⟩ => ⟨S16384x1x1, .i1⟩
  | .hbm, ⟨118, _⟩ => ⟨S16384x1x1, .i1⟩
  | .hbm, ⟨119, _⟩ => ⟨S_, .i1⟩
  | .hbm, ⟨120, _⟩ => ⟨S16384x1, .i1⟩
  | .hbm, ⟨121, _⟩ => ⟨S16384x1, .f32⟩
  | .hbm, ⟨122, _⟩ => ⟨S_, .f32⟩
  | .hbm, ⟨123, _⟩ => ⟨S16384x1, .f32⟩
  | .hbm, ⟨124, _⟩ => ⟨S16384x1, .f32⟩
  | _, _ => ⟨S16384x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_cst : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_cst : Ref sig .tc := ⟨.hbm, 34, rfl⟩
abbrev main_call1_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_call3_cst : Ref sig .tc := ⟨.hbm, 68, rfl⟩
abbrev main_call3_v0 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_call4_cst : Ref sig .tc := ⟨.hbm, 75, rfl⟩
abbrev main_call4_v0 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call5_cst : Ref sig .tc := ⟨.hbm, 82, rfl⟩
abbrev main_call5_v0 : Ref sig .tc := ⟨.hbm, 83, rfl⟩
abbrev main_call5_cst_0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_call5_v5 : Ref sig .tc := ⟨.hbm, 89, rfl⟩
abbrev main_call5_v6 : Ref sig .tc := ⟨.hbm, 90, rfl⟩
abbrev main_call5_cst_1 : Ref sig .tc := ⟨.hbm, 91, rfl⟩
abbrev main_call5_v7 : Ref sig .tc := ⟨.hbm, 92, rfl⟩
abbrev main_call5_v8 : Ref sig .tc := ⟨.hbm, 93, rfl⟩
abbrev main_call5_v9 : Ref sig .tc := ⟨.hbm, 94, rfl⟩
abbrev main_call5_v10 : Ref sig .tc := ⟨.hbm, 95, rfl⟩
abbrev main_v37 : Ref sig .tc := ⟨.hbm, 96, rfl⟩
abbrev main_call6_v0 : Ref sig .tc := ⟨.hbm, 97, rfl⟩
abbrev main_call6_cst : Ref sig .tc := ⟨.hbm, 98, rfl⟩
abbrev main_call6_c : Ref sig .tc := ⟨.hbm, 99, rfl⟩
abbrev main_call6_v1_0 : Ref sig .tc := ⟨.hbm, 100, rfl⟩
abbrev main_v38 : Ref sig .tc := ⟨.hbm, 101, rfl⟩
abbrev main_v39 : Ref sig .tc := ⟨.hbm, 102, rfl⟩
abbrev main_call7_c : Ref sig .tc := ⟨.hbm, 103, rfl⟩
abbrev main_call7_v0 : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_v5 : Ref sig .tc := ⟨.hbm, 110, rfl⟩
abbrev main_call7_c_1 : Ref sig .tc := ⟨.hbm, 111, rfl⟩
abbrev main_call7_c_2 : Ref sig .tc := ⟨.hbm, 112, rfl⟩
abbrev main_call7_v6 : Ref sig .tc := ⟨.hbm, 113, rfl⟩
abbrev main_call7_v7 : Ref sig .tc := ⟨.hbm, 114, rfl⟩
abbrev main_call7_v8 : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_c_3 : Ref sig .tc := ⟨.hbm, 119, rfl⟩
abbrev main_call7_v12 : Ref sig .tc := ⟨.hbm, 120, rfl⟩
abbrev main_call7_v13 : Ref sig .tc := ⟨.hbm, 121, rfl⟩
abbrev main_call7_cst : Ref sig .tc := ⟨.hbm, 122, rfl⟩
abbrev main_call7_v14 : Ref sig .tc := ⟨.hbm, 123, rfl⟩
abbrev main_v40 : Ref sig .tc := ⟨.hbm, 124, rfl⟩

abbrev nD : Nat := 1
abbrev τ : Topo := Topo.v7x

variable {F : FTy → Type} [FloatOps F]
-- ==== Proof.Spec.lean ====
/- The mathematics of one element of the batch, on plain functions of positions: the normalised adjacency, the graph
   layers, the policy network, the greatest logit, its first position and its log-probability. -/
module

public import Idealize.ShloMosaic.Lib.Pointwise

@[expose] public section

noncomputable section

namespace Cert.Proof

open Idealize.ShloMosaic

/-- The constant added to every row's sum. -/
def eps : EReal := Ideal.ofBits .f32 0x358637BD#32

/-- The word that starts a maximum is the least extended real. -/
theorem ofBits_bot : Ideal.ofBits .f32 0xFF800000#32 = ⊥ := by simp [Ideal.ofBits, Ideal.ieee]

/-- The word that bounds a finite value is the greatest extended real. -/
theorem ofBits_top : Ideal.ofBits .f32 0x7F800000#32 = ⊤ := by simp [Ideal.ofBits, Ideal.ieee]

/-- The constant is a real number above zero. -/
theorem eps_real : ∃ r : ℝ, eps = (r : EReal) ∧ 0 < r := by
  refine ⟨8796093 / 2 ^ 43, ?_, by norm_num⟩
  simp [eps, Ideal.ofBits, Ideal.ieee, -EReal.coe_mul]
  norm_num

/-- The adjacency, every row divided by its sum plus the constant. -/
def normS (a : Fin 50 → Fin 50 → EReal) (n k : Fin 50) : EReal := Ideal.div (a n k) (∑ x, a n x + eps)

/-- A dense layer: the positive part of a row times a matrix, plus a bias. -/
def layerS {K N : ℕ} (x : Fin K → EReal) (w : Fin K → Fin N → EReal) (b : Fin N → EReal) (k : Fin N) : EReal :=
  max (∑ i, x i * w i k + b k) 0

/-- Each node's neighbours, weighted by the adjacency's row and summed. -/
def aggS (a : Fin 50 → Fin 50 → EReal) (h : Fin 50 → Fin 64 → EReal) (n : Fin 50) (k : Fin 64) : EReal := ∑ x, a n x * h x k

/-- Both graph layers. -/
def gnnS (nodes : Fin 50 → Fin 16 → EReal) (adj : Fin 50 → Fin 50 → EReal) (w1 : Fin 16 → Fin 64 → EReal) (b1 : Fin 64 → EReal)
    (w2 : Fin 64 → Fin 64 → EReal) (b2 : Fin 64 → EReal) : Fin 50 → Fin 64 → EReal :=
  aggS (normS adj) fun n => layerS (aggS (normS adj) (fun n => layerS (nodes n) w1 b1) n) w2 b2

/-- The policy network's first layer, of the observation and of the agent's row of the graph layers. -/
def fc1S (obs : Fin 48 → EReal) (nbd : Fin 64 → EReal) (wo : Fin 48 → Fin 64 → EReal) (wn : Fin 64 → Fin 64 → EReal)
    (b : Fin 64 → EReal) (k : Fin 64) : EReal :=
  max (∑ x, obs x * wo x k + ∑ x, nbd x * wn x k + b k) 0

/-- The actions' logits, of the policy network's first layer. -/
def actS (x : Fin 64 → EReal) (w : Fin 64 → Fin 64 → EReal) (c : Fin 64 → EReal) (wa : Fin 64 → Fin 5 → EReal) (ba : Fin 5 → EReal)
    (k : Fin 5) : EReal :=
  ∑ i, layerS x w c i * wa i k + ba k

/-- The greatest logit. -/
def topS (l : Fin 5 → EReal) : EReal := Finset.univ.fold max ⊥ l

/-- The least position whose logit is the greatest. -/
def bestS (l : Fin 5 → EReal) : BitVec 32 :=
  Finset.univ.fold IntOp.minsi 2147483647#32 fun x => if l x = topS l then BitVec.ofNat 32 x.val else 5#32

/-- The greatest logit's log-probability. -/
def logpS (l : Fin 5 → EReal) : EReal := 0 - Ideal.log (∑ x, Ideal.exp (l x - topS l))

end Cert.Proof

end
-- ==== Proof.Block.lean ====
/- What one block computes: the payloads of the kernel's body, read at an index, are the mathematics of the element at
   that row of the block. The adjacency and the nodes are padded from 50 to 56; the padding contributes zeros. -/
module

public import proofs.«01_k».proof.Proof.Gen.KernelIdeal.Skeleton
public import proofs.«01_k».proof.Proof.Spec

@[expose] public section

set_option maxRecDepth 16384

noncomputable section

namespace Cert.Proof.Ker

open Cert.KernelIdeal Cert.KernelIdeal.Gen Idealize.ShloMosaic

/-- A sum over the padded positions of a function that is zero on the padding is the sum over the others. -/
theorem sum_pad (f : Fin 56 → EReal) (hf : ∀ x : Fin 56, 50 ≤ x.val → f x = 0) : ∑ x, f x = ∑ x : Fin 50, f ⟨x.val, by omega⟩ := by
  rw [Fin.sum_univ_add (a := 50) (b := 6) f, Finset.sum_eq_zero (s := Finset.univ) (f := fun i : Fin 6 => f (Fin.natAdd 50 i))
    fun i _ => hf _ (by simp)]
  exact add_zero _

/-- A position's word compared with the number of nodes. -/
theorem slt_word {n : ℕ} (h : n < 56) : IntOp.cmpi .slt (BitVec.ofNat 32 n) 50#32 = if n < 50 then 1#1 else 0#1 :=
  (by decide : ∀ n : Fin 56, IntOp.cmpi .slt (BitVec.ofNat 32 n.val) 50#32 = if n.val < 50 then 1#1 else 0#1) ⟨n, h⟩

/-- A position's word compared with an agent's. -/
theorem eq_word (n : Fin 56) (p : Fin 50) :
    IntOp.cmpi .eq (BitVec.ofNat 32 n.val) (BitVec.ofNat 32 p.val) = if n.val = p.val then 1#1 else 0#1 := by
  revert n p
  decide +kernel

/-- A selection by a word that is one. -/
theorem sel_one {α : Type} (x y : α) : Scalar.select 1#1 x y = x := rfl

/-- A selection by a word that is zero. -/
theorem sel_zero {α : Type} (x y : α) : Scalar.select 0#1 x y = y := rfl

/-- Both of two words that are one. -/
theorem and_one : IntOp.andi 1#1 1#1 = 1#1 := rfl

/-- Nothing and another word. -/
theorem and_zero (x : BitVec 1) : IntOp.andi 0#1 x = 0#1 := by revert x; decide

/-- Another word and nothing. -/
theorem zero_and (x : BitVec 1) : IntOp.andi x 0#1 = 0#1 := by revert x; decide

/-- A node's position is below the number of nodes. -/
theorem in_word (n : Fin 50) : IntOp.cmpi .slt (BitVec.ofNat 32 n.val) 50#32 = 1#1 := by
  rw [slt_word (by omega), if_pos n.isLt]

/-- A padded position is not. -/
theorem out_word {n : ℕ} (h : n < 56) (h' : 50 ≤ n) : IntOp.cmpi .slt (BitVec.ofNat 32 n) 50#32 = 0#1 := by
  rw [slt_word h, if_neg (by omega)]

/-- Zero divided by anything but zero is zero. -/
theorem zero_div {y : EReal} (h : y ≠ 0) : Ideal.div 0 y = 0 := by rw [Ideal.div, if_neg h, zero_mul]

/-- The constant is not zero. -/
theorem eps_ne : eps ≠ 0 := by
  obtain ⟨r, e, h⟩ := eps_real
  rw [e]
  exact fun h' => h.ne' (EReal.coe_eq_zero.mp h')

/-- The padded normalised adjacency, inside: the element's normalised adjacency. -/
theorem pay5_in (adj : Vec Ideal S256x50x50 .f32) (b : Fin 256) (n k : Fin 50) :
    k0_pay5 adj (ix3 b ⟨n.val, by omega⟩ ⟨k.val, by omega⟩) = normS (fun n k => adj (ix3 b n k)) n k := by
  have ho : ∀ x : Fin 6, IntOp.cmpi .slt (BitVec.ofNat 32 (50 + x.val)) 50#32 = 0#1 := fun x => out_word (by omega) (by omega)
  pointwise [k0_pay5, normS, eps]
  simp [in_word, and_one, sel_one, ho, zero_and, sel_zero]

/-- The padded normalised adjacency, outside: zero, where no row's sum plus the constant is zero. -/
theorem pay5_out (adj : Vec Ideal S256x50x50 .f32) (b : Fin 256) (h : ∀ n, ∑ x, adj (ix3 b n x) + eps ≠ 0) (n k : Fin 56)
    (ho : 50 ≤ n.val ∨ 50 ≤ k.val) : k0_pay5 adj (ix3 b n k) = 0 := by
  have hp : ∀ x : Fin 6, IntOp.cmpi .slt (BitVec.ofNat 32 (50 + x.val)) 50#32 = 0#1 := fun x => out_word (by omega) (by omega)
  pointwise [k0_pay5]
  by_cases hn : 50 ≤ n.val
  · have e := eps_ne
    rw [eps] at e
    simp [out_word n.isLt hn, and_zero, sel_zero, zero_div e]
  · have hk : 50 ≤ k.val := by omega
    have hw : IntOp.cmpi .slt (BitVec.ofNat 32 n.val) 50#32 = 1#1 := in_word ⟨n.val, by omega⟩
    have hr := h ⟨n.val, by omega⟩
    rw [eps] at hr
    simp [hw, out_word k.isLt hk, zero_and, and_one, sel_zero, sel_one, in_word, hp, show n.val < 50 by omega, zero_div hr]

/-- The first graph layer of a node. -/
theorem pay6_in (v18 : Vec Ideal S256x16x50 .f32) (v31 : Vec Ideal S16x64 .f32) (v33 : Vec Ideal S1x1x64 .f32) (b : Fin 256) (n : Fin 50) (k : Fin 64) :
    max (k0_pay6 v18 v31 v33 (ix3 b ⟨n.val, by omega⟩ k)) 0
      = layerS (fun i => v18 (ix3 b i n)) (fun i k => v31 (ix2 i k)) (fun k => v33 (ix3 0 0 k)) k := by
  pointwise [k0_pay6, layerS]
  simp [in_word, sel_one]

/-- The aggregation over the padded nodes, at a node: the element's aggregation. -/
theorem agg_in (adj : Vec Ideal S256x50x50 .f32) (b : Fin 256) (h : ∀ n, ∑ x, adj (ix3 b n x) + eps ≠ 0) (n : Fin 50)
    (g : Fin 56 → EReal) :
    ∑ x, k0_pay5 adj (ix3 b ⟨n.val, by omega⟩ x) * g x
      = ∑ x : Fin 50, normS (fun n k => adj (ix3 b n k)) n x * g ⟨x.val, by omega⟩ := by
  rw [sum_pad _ fun x hx => by rw [pay5_out adj b h _ x (.inr hx), zero_mul]]
  simp only [pay5_in]

/-- The row of the padded adjacency that the agent's position selects. -/
theorem ego_row (v : FVec Ideal S256x56x56 .f32) (b : Fin 256) (p : Fin 50) (x : Fin 56) :
    ∑ n : Fin 56, Scalar.select (IntOp.cmpi .eq (BitVec.ofNat 32 n.val) (BitVec.ofNat 32 p.val)) (v (ix3 b n x)) 0
      = v (ix3 b ⟨p.val, by omega⟩ x) := by
  rw [Finset.sum_eq_single (⟨p.val, by omega⟩ : Fin 56)]
  · rw [eq_word, if_pos rfl, sel_one]
  · intro n _ hn
    rw [eq_word, if_neg (fun e => hn (Fin.ext e)), sel_zero]
  · intro h
    exact absurd (Finset.mem_univ _) h

/-- The policy network's first layer, of the element at a block's row whose agent is node `p`. -/
theorem pay7_apply (obs : Vec Ideal S256x48 .f32) (nodes : Vec Ideal S256x16x50 .f32) (adj : Vec Ideal S256x50x50 .f32)
    (ids : Vec Ideal S256x1 .i32) (w1 : Vec Ideal S16x64 .f32) (b1 : Vec Ideal S1x1x64 .f32) (w2 : Vec Ideal S64x64 .f32)
    (b2 : Vec Ideal S1x1x64 .f32) (wo : Vec Ideal S48x64 .f32) (wn : Vec Ideal S64x64 .f32) (c1 : Vec Ideal S1x64 .f32)
    (b : Fin 256) (k : Fin 64) (p : Fin 50) (hp : ids (ix2 b 0) = BitVec.ofNat 32 p.val) (h : ∀ n, ∑ x, adj (ix3 b n x) + eps ≠ 0) :
    k0_pay7 (k0_pay5 adj) (k0_pay6 nodes w1 b1) (Scalar.ofBits (F := Ideal) .f32 0x00000000#32) w2 b2 ids obs wo wn c1 (ix2 b k)
      = fc1S (fun i => obs (ix2 b i))
          (gnnS (fun n i => nodes (ix3 b i n)) (fun n k => adj (ix3 b n k)) (fun i k => w1 (ix2 i k)) (fun k => b1 (ix3 0 0 k))
            (fun i k => w2 (ix2 i k)) (fun k => b2 (ix3 0 0 k)) p)
          (fun i k => wo (ix2 i k)) (fun i k => wn (ix2 i k)) (fun k => c1 (ix2 0 k)) k := by
  have hz : (Scalar.ofBits (F := Ideal) .f32 0x00000000#32 : EReal) = 0 := Ideal.ofBits_zero_f32
  pointwise [k0_pay7]
  simp only [hp, ego_row, hz, agg_in adj b h, pay6_in, fc1S, gnnS, aggS, layerS]

/-- The logits of the element at a block's row, of the policy network's first layer. -/
theorem pay1_apply (x : FVec Ideal S256x64 .f32) (w : Vec Ideal S64x64 .f32) (c : Vec Ideal S1x64 .f32) (wa : Vec Ideal S64x5 .f32)
    (ba : Vec Ideal S1x5 .f32) (b : Fin 256) (k : Fin 5) :
    k0_pay1 x w c wa ba (ix2 b k)
      = actS (fun i => x (ix2 b i)) (fun i k => w (ix2 i k)) (fun k => c (ix2 0 k)) (fun i k => wa (ix2 i k)) (fun k => ba (ix2 0 k)) k := by
  pointwise [k0_pay1, actS, layerS]

/-- The greatest logit of the element at a block's row. -/
theorem pay2_apply (x : FVec Ideal S256x64 .f32) (w : Vec Ideal S64x64 .f32) (c : Vec Ideal S1x64 .f32) (wa : Vec Ideal S64x5 .f32)
    (ba : Vec Ideal S1x5 .f32) (b : Fin 256) :
    k0_pay2 x w c wa ba (ix2 b 0) = topS fun k => k0_pay1 x w c wa ba (ix2 b k) := by
  pointwise [k0_pay2, topS]
  rw [ofBits_bot]

/-- The action of the element at a block's row. -/
theorem pay3_apply (x : FVec Ideal S256x64 .f32) (w : Vec Ideal S64x64 .f32) (c : Vec Ideal S1x64 .f32) (wa : Vec Ideal S64x5 .f32)
    (ba : Vec Ideal S1x5 .f32) (b : Fin 256) :
    k0_pay3 x w c wa ba (ix2 b 0) = bestS fun k => k0_pay1 x w c wa ba (ix2 b k) := by
  pointwise [k0_pay3, bestS]
  simp only [pay2_apply]

/-- The action's log-probability, of the element at a block's row. -/
theorem pay4_apply (x : FVec Ideal S256x64 .f32) (w : Vec Ideal S64x64 .f32) (c : Vec Ideal S1x64 .f32) (wa : Vec Ideal S64x5 .f32)
    (ba : Vec Ideal S1x5 .f32) (b : Fin 256) :
    k0_pay4 x w c wa ba (ix2 b 0) = logpS fun k => k0_pay1 x w c wa ba (ix2 b k) := by
  pointwise [k0_pay4, logpS]
  simp only [pay2_apply]

end Cert.Proof.Ker
end
-- ==== Proof.RefStages.lean ====
/- The reference, cut into the stages its lines name: the normalised adjacency, the two graph layers, the selection of
   each element's own node, the policy network, the log-softmax, the arg-max and the selection of the chosen action's
   log-probability. Each stage is a function of arrays, over any float values. -/
module

public import proofs.«01_k».proof.Proof.Gen.ReferenceIdeal

@[expose] public section

noncomputable section

namespace Cert.Proof.Ref

open Cert.ReferenceIdeal Cert.ReferenceIdeal.Gen Idealize.ShloMosaic

variable {F : FTy → Type} [FloatOps F]

/-- The adjacency, every row divided by its sum plus a small constant. -/
def normR (adj : FVec F S16384x50x50 .f32) : FVec F S16384x50x50 .f32 :=
  Host.divf adj (broadcastInDim S16384x50x50 ![0, 1, 2] bcast_S16384x50x1_S16384x50x50_0_1_2
    (addf (broadcastInDim S16384x50x1 ![0, 1] bcast_S16384x50_S16384x50x1_0_1
        (Host.reduceAdd adj (constant S_ .f32 0x00000000#32) reducesTo_S16384x50x50_S16384x50_d2 h_S_))
      (broadcastInDim S16384x50x1 ![] bcast_S_S16384x50x1 (constant S_ .f32 0x358637BD#32))))

/-- A bias, the same for every node of every element. -/
def bias3 (b : FVec F S64 .f32) : FVec F S16384x50x64 .f32 :=
  broadcastInDim S16384x50x64 ![0, 1, 2] bcast_S1x1x64_S16384x50x64_0_1_2 (broadcastInDim S1x1x64 ![2] bcast_S64_S1x1x64_2 b)

/-- The positive part of an array over nodes. -/
def relu3 (x : FVec F S16384x50x64 .f32) : FVec F S16384x50x64 .f32 :=
  maximumf x (broadcastInDim S16384x50x64 ![] bcast_S_S16384x50x64 (constant S_ .f32 0x00000000#32))

/-- Each node's neighbours, weighted by the adjacency's row and summed. -/
def aggR (a : FVec F S16384x50x50 .f32) (h : FVec F S16384x50x64 .f32) : FVec F S16384x50x64 .f32 :=
  Host.dotGeneral dot_S16384x50x50_S16384x50x64_S16384x50x64_2_1_1_2_0_0 none a h

/-- The first graph layer before it is aggregated. -/
def hidR (nodes : FVec F S16384x50x16 .f32) (w : FVec F S16x64 .f32) (b : FVec F S64 .f32) : FVec F S16384x50x64 .f32 :=
  relu3 (addf (Host.dotGeneral dot_S16384x50x16_S16x64_S16384x50x64_2_0_01_1_n_n none nodes w) (bias3 b))

/-- The second graph layer before it is aggregated. -/
def hidR2 (g : FVec F S16384x50x64 .f32) (w : FVec F S64x64 .f32) (b : FVec F S64 .f32) : FVec F S16384x50x64 .f32 :=
  relu3 (addf (Host.dotGeneral dot_S16384x50x64_S64x64_S16384x50x64_2_0_01_1_n_n none g w) (bias3 b))

/-- Both graph layers. -/
def gnnR (nodes : FVec F S16384x50x16 .f32) (adj : FVec F S16384x50x50 .f32) (w1 : FVec F S16x64 .f32) (b1 : FVec F S64 .f32)
    (w2 : FVec F S64x64 .f32) (b2 : FVec F S64 .f32) : FVec F S16384x50x64 .f32 :=
  aggR (normR adj) (hidR2 (aggR (normR adj) (hidR nodes w1 b1)) w2 b2)

/-- Each element's agent, written once per feature. -/
def spreadR (ids : IVec S16384x1 32) : IVec S16384x1x64 32 :=
  broadcastInDim S16384x1x64 ![0, 1, 2] bcast_S16384x1x1_S16384x1x64_0_1_2
    (broadcastInDim S16384x1x1 ![0, 1] bcast_S16384x1_S16384x1x1_0_1 ids)

/-- The agents' positions, with a negative one counted from the end. -/
def posR (ids : IVec S16384x1 32) : IVec S16384x1x64x1 32 :=
  shapeCast _ (select (cmpi .slt (spreadR ids) (broadcastInDim S16384x1x64 ![] bcast_S_S16384x1x64 (constantI S_ 32 0#32)))
    (addi (spreadR ids) (broadcastInDim S16384x1x64 ![] bcast_S_S16384x1x64 (constantI S_ 32 50#32)))
    (spreadR ids)) shapeCasts_S16384x1x64_S16384x1x64x1

/-- Where an agent's position names a node. -/
def okR (ids : IVec S16384x1 32) : IVec S16384x1x64 1 :=
  Host.reduce IntOp.andi
    (andi (cmpi .sge (posR ids) (broadcastInDim S16384x1x64x1 ![] bcast_S_S16384x1x64x1 (constantI S_ 32 0#32)))
      (cmpi .sle (posR ids) (broadcastInDim S16384x1x64x1 ![0, 1, 2, 3] bcast_S1x1x1x1_S16384x1x64x1_0_1_2_3
        (broadcastInDim S1x1x1x1 ![3] bcast_S1_S1x1x1x1_3 (constantI S1 32 49#32)))))
    (constantI S_ 1 1#1) reducesTo_S16384x1x64x1_S16384x1x64_d3 h_S_

/-- The row of the agent's own node. -/
def pickR (h : FVec F S16384x50x64 .f32) (ids : IVec S16384x1 32) : FVec F S16384x64 .f32 :=
  shapeCast _ (select (okR ids) (Host.gather gather_S16384x50x64_S16384x1x64x1_S16384x1x64_n_1_02_02_1_3_111 h (posR ids))
    (broadcastInDim S16384x1x64 ![] bcast_S_S16384x1x64 (constant S_ .f32 0x7FC00000#32))) shapeCasts_S16384x1x64_S16384x64

/-- An observation and its node's row, one after the other. -/
def catR (obs : FVec F S16384x48 .f32) (nbd : FVec F S16384x64 .f32) : FVec F S16384x112 .f32 :=
  concatenate S16384x112 1 [⟨S16384x48, obs⟩, ⟨S16384x64, nbd⟩] concatenates_S16384x48_S16384x64_S16384x112_d1

/-- A bias, the same for every element. -/
def bias2 (b : FVec F S64 .f32) : FVec F S16384x64 .f32 :=
  broadcastInDim S16384x64 ![0, 1] bcast_S1x64_S16384x64_0_1 (broadcastInDim S1x64 ![1] bcast_S64_S1x64_1 b)

/-- The positive part of an array over elements. -/
def relu2 (x : FVec F S16384x64 .f32) : FVec F S16384x64 .f32 :=
  maximumf x (broadcastInDim S16384x64 ![] bcast_S_S16384x64 (constant S_ .f32 0x00000000#32))

/-- The policy network's first layer. -/
def fc1R (obs : FVec F S16384x48 .f32) (nbd : FVec F S16384x64 .f32) (w : FVec F S112x64 .f32) (b : FVec F S64 .f32) : FVec F S16384x64 .f32 :=
  relu2 (addf (Host.dotGeneral dot_S16384x112_S112x64_S16384x64_1_0_0_1_n_n none (catR obs nbd) w) (bias2 b))

/-- The policy network's second layer. -/
def fc2R (x : FVec F S16384x64 .f32) (w : FVec F S64x64 .f32) (b : FVec F S64 .f32) : FVec F S16384x64 .f32 :=
  relu2 (addf (Host.dotGeneral dot_S16384x64_S64x64_S16384x64_1_0_0_1_n_n none x w) (bias2 b))

/-- The actions' logits. -/
def actR (x : FVec F S16384x64 .f32) (w : FVec F S64x5 .f32) (b : FVec F S5 .f32) : FVec F S16384x5 .f32 :=
  addf (Host.dotGeneral dot_S16384x64_S64x5_S16384x5_1_0_0_1_n_n none x w)
    (broadcastInDim S16384x5 ![0, 1] bcast_S1x5_S16384x5_0_1 (broadcastInDim S1x5 ![1] bcast_S5_S1x5_1 b))

/-- The policy network. -/
def mlpR (obs : FVec F S16384x48 .f32) (nbd : FVec F S16384x64 .f32) (w1 : FVec F S112x64 .f32) (b1 : FVec F S64 .f32)
    (w2 : FVec F S64x64 .f32) (b2 : FVec F S64 .f32) (wa : FVec F S64x5 .f32) (ba : FVec F S5 .f32) : FVec F S16384x5 .f32 :=
  actR (fc2R (fc1R obs nbd w1 b1) w2 b2) wa ba

/-- Logits less the greatest of their row. -/
def shiftR (l : FVec F S16384x5 .f32) : FVec F S16384x5 .f32 :=
  subf l (broadcastInDim S16384x5 ![0, 1] bcast_S16384x1_S16384x5_0_1 (broadcastInDim S16384x1 ![0] bcast_S16384_S16384x1_0
    (maximumf (broadcastInDim S16384 ![] bcast_S_S16384 (constant S_ .f32 0xFF800000#32))
      (Host.reduce FloatOps.maximumf l (constant S_ .f32 0xFF800000#32) reducesTo_S16384x5_S16384_d1 h_S_))))

/-- The log-softmax of every row. -/
def lsmR (l : FVec F S16384x5 .f32) : FVec F S16384x5 .f32 :=
  subf (shiftR l) (broadcastInDim S16384x5 ![0, 1] bcast_S16384x1_S16384x5_0_1
    (Host.log (broadcastInDim S16384x1 ![0] bcast_S16384_S16384x1_0
      (Host.reduceAdd (Host.exp (shiftR l)) (constant S_ .f32 0x00000000#32) reducesTo_S16384x5_S16384_d1 h_S_))))

/-- The position of every row's greatest logit, as a column. -/
def argR (l : FVec F S16384x5 .f32) : IVec S16384x1 32 :=
  broadcastInDim S16384x1 ![0] bcast_S16384_S16384x1_0
    (fun j => (Host.argReduce reducer_argmax_f32_i32 l (iotaInDim S16384x5 32 1) (constant S_ .f32 0xFF800000#32)
      (constantI S_ 32 0#32) reducesTo_S16384x5_S16384_d1 h_S_ j).2)

/-- The actions' positions, with a negative one counted from the end. -/
def posA (act : IVec S16384x1 32) : IVec S16384x1x1 32 :=
  shapeCast _ (select (cmpi .slt act (broadcastInDim S16384x1 ![] bcast_S_S16384x1 (constantI S_ 32 0#32)))
    (addi act (broadcastInDim S16384x1 ![] bcast_S_S16384x1 (constantI S_ 32 5#32))) act) shapeCasts_S16384x1_S16384x1x1

/-- Where an action's position names an entry of the row. -/
def okA (act : IVec S16384x1 32) : IVec S16384x1 1 :=
  Host.reduce IntOp.andi
    (andi (cmpi .sge (posA act) (broadcastInDim S16384x1x1 ![] bcast_S_S16384x1x1 (constantI S_ 32 0#32)))
      (cmpi .sle (posA act) (broadcastInDim S16384x1x1 ![0, 1, 2] bcast_S1x1x1_S16384x1x1_0_1_2
        (broadcastInDim S1x1x1 ![2] bcast_S1_S1x1x1_2 (constantI S1 32 4#32)))))
    (constantI S_ 1 1#1) reducesTo_S16384x1x1_S16384x1_d2 h_S_

/-- The entry of every row at its action. -/
def takeR (lp : FVec F S16384x5 .f32) (act : IVec S16384x1 32) : FVec F S16384x1 .f32 :=
  select (okA act) (Host.gather gather_S16384x5_S16384x1x1_S16384x1_n_1_0_0_1_2_11 lp (posA act))
    (broadcastInDim S16384x1 ![] bcast_S_S16384x1 (constant S_ .f32 0x7FC00000#32))

end Cert.Proof.Ref

end
-- ==== Proof.RefRun.lean ====
/- The reference's run: its operations in six lists, one per stage; what each stage leaves in its result buffer; and the
   run of the whole program, whose two results are the stages' functions of the arguments. -/
module

public import proofs.«01_k».proof.Proof.RefStages
public import Idealize.ShloMosaic.Lib.StableHlo.Run
public import Idealize.ShloMosaic.Lib.StableHlo.RunRead
public import Idealize.ShloMosaic.Lib.Pipeline.Frame

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The reference's operations of the two graph layers, in order. -/
abbrev opsGnn : List (HloOp τ sig (Elt F)) :=
  [ nullary main_cst (constant S_ .f32 0x00000000#32),
    binary main_arg2 main_cst main_v0 ((fun x v => Host.reduceAdd x v reducesTo_S16384x50x50_S16384x50_d2 h_S_) : (⟨S16384x50x50, .f32⟩ : BufTy).Contents (Elt F) → (⟨S_, .f32⟩ : BufTy).Contents (Elt F) → (⟨S16384x50, .f32⟩ : BufTy).Contents (Elt F)),
    unary main_v0 main_v1 (broadcastInDim S16384x50x1 ![0, 1] bcast_S16384x50_S16384x50x1_0_1 : (⟨S16384x50, .f32⟩ : BufTy).Contents (Elt F) → (⟨S16384x50x1, .f32⟩ : BufTy).Contents (Elt F)),
    nullary main_cst_0 (constant S_ .f32 0x358637BD#32),
    unary main_cst_0 main_v2 (broadcastInDim S16384x50x1 ![] bcast_S_S16384x50x1 : (⟨S_, .f32⟩ : BufTy).Contents (Elt F) → (⟨S16384x50x1, .f32⟩ : BufTy).Contents (Elt F)),
    binary main_v1 main_v2 main_v3 (addf : (⟨S16384x50x1, .f32⟩ : BufTy).Contents (Elt F) → (⟨S16384x50x1, .f32⟩ : BufTy).Contents (Elt F) → (⟨S16384x50x1, .f32⟩ : BufTy).Contents (Elt F)),
    unary main_v3 main_v4 (broadcastInDim S16384x50x50 ![0, 1, 2] bcast_S16384x50x1_S16384x50x50_0_1_2 : (⟨S16384x50x1, .f32⟩ : BufTy).Contents (Elt F) → (⟨S16384x50x50, .f32⟩ : BufTy).Contents (Elt F)),
    binary main_arg2 main_v4 main_v5 (Host.divf : (⟨S16384x50x50, .f32⟩ : BufTy).Contents (Elt F) → (⟨S16384x50x50, .f32⟩ : BufTy).Contents (Elt F) → (⟨S16384x50x50, .f32⟩ : BufTy).Contents (Elt F)),
    binary main_arg1 main_arg4 main_v6 ((fun l r => Host.dotGeneral dot_S16384x50x16_S16x64_S16384x50x64_2_0_01_1_n_n none l r) : (⟨S16384x50x16, .f32⟩ : BufTy).Contents (Elt F) → (⟨S16x64, .f32⟩ : BufTy).Contents (Elt F) → (⟨S16384x50x64, .f32⟩ : BufTy).Contents (Elt F)),
    unary main_arg5 main_v7 (broadcastInDim S1x1x64 ![2] bcast_S64_S1x1x64_2 : (⟨S64, .f32⟩ : BufTy).Contents (Elt F) → (⟨S1x1x64, .f32⟩ : BufTy).Contents (Elt F)),
    unary main_v7 main_v8 (broadcastInDim S16384x50x64 ![0, 1, 2] bcast_S1x1x64_S16384x50x64_0_1_2 : (⟨S1x1x64, .f32⟩ : BufTy).Contents (Elt F) → (⟨S16384x50x64, .f32⟩ : BufTy).Contents (Elt F)),
    binary main_v6 main_v8 main_v9 (addf : (⟨S16384x50x64, .f32⟩ : BufTy).Contents (Elt F) → (⟨S16384x50x64, .f32⟩ : BufTy).Contents (Elt F) → (⟨S16384x50x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x50x64, .f32⟩) main_call0_v0) (broadcastInDim S16384x50x64 ![] bcast_S_S16384x50x64),
    TRef.binary (TRef.of (T := ⟨S16384x50x64, .f32⟩) main_v9) (TRef.of (T := ⟨S16384x50x64, .f32⟩) main_call0_v0) (TRef.of (T := ⟨S16384x50x64, .f32⟩) main_v10) maximumf,
    binary main_v5 main_v10 main_v11 ((fun l r => Host.dotGeneral dot_S16384x50x50_S16384x50x64_S16384x50x64_2_1_1_2_0_0 none l r) : (⟨S16384x50x50, .f32⟩ : BufTy).Contents (Elt F) → (⟨S16384x50x64, .f32⟩ : BufTy).Contents (Elt F) → (⟨S16384x50x64, .f32⟩ : BufTy).Contents (Elt F)),
    binary main_v11 main_arg6 main_v12 ((fun l r => Host.dotGeneral dot_S16384x50x64_S64x64_S16384x50x64_2_0_01_1_n_n none l r) : (⟨S16384x50x64, .f32⟩ : BufTy).Contents (Elt F) → (⟨S64x64, .f32⟩ : BufTy).Contents (Elt F) → (⟨S16384x50x64, .f32⟩ : BufTy).Contents (Elt F)),
    unary main_arg7 main_v13 (broadcastInDim S1x1x64 ![2] bcast_S64_S1x1x64_2 : (⟨S64, .f32⟩ : BufTy).Contents (Elt F) → (⟨S1x1x64, .f32⟩ : BufTy).Contents (Elt F)),
    unary main_v13 main_v14 (broadcastInDim S16384x50x64 ![0, 1, 2] bcast_S1x1x64_S16384x50x64_0_1_2 : (⟨S1x1x64, .f32⟩ : BufTy).Contents (Elt F) → (⟨S16384x50x64, .f32⟩ : BufTy).Contents (Elt F)),
    binary main_v12 main_v14 main_v15 (addf : (⟨S16384x50x64, .f32⟩ : BufTy).Contents (Elt F) → (⟨S16384x50x64, .f32⟩ : BufTy).Contents (Elt F) → (⟨S16384x50x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16384x50x64, .f32⟩) main_call1_v0) (broadcastInDim S16384x50x64 ![] bcast_S_S16384x50x64),
    TRef.binary (TRef.of (T := ⟨S16384x50x64, .f32⟩) main_v15) (TRef.of (T := ⟨S16384x50x64, .f32⟩) main_call1_v0) (TRef.of (T := ⟨S16384x50x64, .f32⟩) main_v16) maximumf,
    binary main_v5 main_v16 main_v17 ((fun l r => Host.dotGeneral dot_S16384x50x50_S16384x50x64_S16384x50x64_2_1_1_2_0_0 none l r) : (⟨S16384x50x50, .f32⟩ : BufTy).Contents (Elt F) → (⟨S16384x50x64, .f32⟩ : BufTy).Contents (Elt F) → (⟨S16384x50x64, .f32⟩ : BufTy).Contents (Elt F)) ]

/-- The buffers that `opsGnn` writes. -/
abbrev opsGnnW : List (Ref sig .tc) :=
  [main_cst, main_v0, main_v1, main_cst_0, main_v2, main_v3, main_v4, main_v5, main_v6, main_v7, main_v8, main_v9, main_call0_cst, main_call0_v0, main_v10, main_v11, main_v12, main_v13, main_v14, main_v15, main_call1_cst, main_call1_v0, main_v16, main_v17]

/-- The reference's operations of the selection of the agent's row, in order. -/
abbrev opsPick : List (HloOp τ sig (Elt F)) :=
  [ unary main_arg3 main_v18 (broadcastInDim S16384x1x1 ![0, 1] bcast_S16384x1_S16384x1x1_0_1 : (⟨S16384x1, .i32⟩ : BufTy).Contents (Elt F) → (⟨S16384x1x1, .i32⟩ : BufTy).Contents (Elt F)),
    unary main_v18 main_v19 (broadcastInDim S16384x1x64 ![0, 1, 2] bcast_S16384x1x1_S16384x1x64_0_1_2 : (⟨S16384x1x1, .i32⟩ : BufTy).Contents (Elt F) → (⟨S16384x1x64, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16384x1x64, .i32⟩) main_call2_v0) (broadcastInDim S16384x1x64 ![] bcast_S_S16384x1x64),
    TRef.binary (TRef.of (T := ⟨S16384x1x64, .i32⟩) main_v19) (TRef.of (T := ⟨S16384x1x64, .i32⟩) main_call2_v0) (TRef.of (T := ⟨S16384x1x64, .i1⟩) main_call2_v1) (cmpi .slt),
    TRef.nullary (TRef.of (T := ⟨S_, .i32⟩) main_call2_c_0) (constantI S_ 32 50#32),
    TRef.unary (TRef.of (T := ⟨S_, .i32⟩) main_call2_c_0) (TRef.of (T := ⟨S16384x1x64, .i32⟩) main_call2_v2) (broadcastInDim S16384x1x64 ![] bcast_S_S16384x1x64),
    TRef.binary (TRef.of (T := ⟨S16384x1x64, .i32⟩) main_v19) (TRef.of (T := ⟨S16384x1x64, .i32⟩) main_call2_v2) (TRef.of (T := ⟨S16384x1x64, .i32⟩) main_call2_v3) addi,
    TRef.ternary (TRef.of (T := ⟨S16384x1x64, .i1⟩) main_call2_v1) (TRef.of (T := ⟨S16384x1x64, .i32⟩) main_call2_v3) (TRef.of (T := ⟨S16384x1x64, .i32⟩) main_v19) (TRef.of (T := ⟨S16384x1x64, .i32⟩) main_call2_v4) select,
    TRef.reshape (TRef.of (T := ⟨S16384x1x64, .i32⟩) main_call2_v4) (TRef.of (T := ⟨S16384x1x64x1, .i32⟩) main_call2_v5) (rfl : (.i32 : EltTy) = .i32) shapeCasts_S16384x1x64_S16384x1x64x1,
    TRef.nullary (TRef.of (T := ⟨S1, .i32⟩) main_call2_c_1) (constantI S1 32 49#32),
    TRef.nullary (TRef.of (T := ⟨S_, .i32⟩) main_call2_c_2) (constantI S_ 32 0#32),
    TRef.unary (TRef.of (T := ⟨S_, .i32⟩) main_call2_c_2) (TRef.of (T := ⟨S16384x1x64x1, .i32⟩) main_call2_v6) (broadcastInDim S16384x1x64x1 ![] bcast_S_S16384x1x64x1),
    TRef.binary (TRef.of (T := ⟨S16384x1x64x1, .i32⟩) main_call2_v5) (TRef.of (T := ⟨S16384x1x64x1, .i32⟩) main_call2_v6) (TRef.of (T := ⟨S16384x1x64x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S16384x1x64x1, .i32⟩) main_call2_v9) (broadcastInDim S16384x1x64x1 ![0, 1, 2, 3] bcast_S1x1x1x1_S16384x1x64x1_0_1_2_3),
    TRef.binary (TRef.of (T := ⟨S16384x1x64x1, .i32⟩) main_call2_v5) (TRef.of (T := ⟨S16384x1x64x1, .i32⟩) main_call2_v9) (TRef.of (T := ⟨S16384x1x64x1, .i1⟩) main_call2_v10) (cmpi .sle),
    TRef.binary (TRef.of (T := ⟨S16384x1x64x1, .i1⟩) main_call2_v7) (TRef.of (T := ⟨S16384x1x64x1, .i1⟩) main_call2_v10) (TRef.of (T := ⟨S16384x1x64x1, .i1⟩) main_call2_v11) andi,
    TRef.nullary (TRef.of (T := ⟨S_, .i1⟩) main_call2_c_3) (constantI S_ 1 1#1),
    TRef.binary (TRef.of (T := ⟨S16384x1x64x1, .i1⟩) main_call2_v11) (TRef.of (T := ⟨S_, .i1⟩) main_call2_c_3) (TRef.of (T := ⟨S16384x1x64, .i1⟩) main_call2_v12) (fun x v => Host.reduce IntOp.andi x v reducesTo_S16384x1x64x1_S16384x1x64_d3 h_S_),
    TRef.binary (TRef.of (T := ⟨S16384x50x64, .f32⟩) main_v17) (TRef.of (T := ⟨S16384x1x64x1, .i32⟩) main_call2_v5) (TRef.of (T := ⟨S16384x1x64, .f32⟩) main_call2_v13) (fun x i => Host.gather gather_S16384x50x64_S16384x1x64x1_S16384x1x64_n_1_02_02_1_3_111 x i),
    TRef.nullary (TRef.of (T := ⟨S_, .f32⟩) main_call2_cst) (constant S_ .f32 0x7FC00000#32),
    TRef.unary (TRef.of (T := ⟨S_, .f32⟩) main_call2_cst) (TRef.of (T := ⟨S16384x1x64, .f32⟩) main_call2_v14) (broadcastInDim S16384x1x64 ![] bcast_S_S16384x1x64),
    TRef.ternary (TRef.of (T := ⟨S16384x1x64, .i1⟩) main_call2_v12) (TRef.of (T := ⟨S16384x1x64, .f32⟩) main_call2_v13) (TRef.of (T := ⟨S16384x1x64, .f32⟩) main_call2_v14) (TRef.of (T := ⟨S16384x1x64, .f32⟩) main_v20) select,
    reshape main_v20 main_v21 (rfl : (.f32 : EltTy) = .f32) shapeCasts_S16384x1x64_S16384x64 ]

/-- The buffers that `opsPick` writes. -/
abbrev opsPickW : List (Ref sig .tc) :=
  [main_v18, main_v19, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v20, main_v21]

/-- The reference's operations of the policy network, in order. -/
abbrev opsMlp : List (HloOp τ sig (Elt F)) :=
  [ binary main_arg0 main_v21 main_v22 ((catR (F := F)) : (⟨S16384x48, .f32⟩ : BufTy).Contents (Elt F) → (⟨S16384x64, .f32⟩ : BufTy).Contents (Elt F) → (⟨S16384x112, .f32⟩ : BufTy).Contents (Elt F)),
    binary main_v22 main_arg8 main_v23 ((fun l r => Host.dotGeneral dot_S16384x112_S112x64_S16384x64_1_0_0_1_n_n none l r) : (⟨S16384x112, .f32⟩ : BufTy).Contents (Elt F) → (⟨S112x64, .f32⟩ : BufTy).Contents (Elt F) → (⟨S16384x64, .f32⟩ : BufTy).Contents (Elt F)),
    unary main_arg9 main_v24 (broadcastInDim S1x64 ![1] bcast_S64_S1x64_1 : (⟨S64, .f32⟩ : BufTy).Contents (Elt F) → (⟨S1x64, .f32⟩ : BufTy).Contents (Elt F)),
    unary main_v24 main_v25 (broadcastInDim S16384x64 ![0, 1] bcast_S1x64_S16384x64_0_1 : (⟨S1x64, .f32⟩ : BufTy).Contents (Elt F) → (⟨S16384x64, .f32⟩ : BufTy).Contents (Elt F)),
    binary main_v23 main_v25 main_v26 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16384x64, .f32⟩) main_call3_v0) (broadcastInDim S16384x64 ![] bcast_S_S16384x64),
    TRef.binary (TRef.of (T := ⟨S16384x64, .f32⟩) main_v26) (TRef.of (T := ⟨S16384x64, .f32⟩) main_call3_v0) (TRef.of (T := ⟨S16384x64, .f32⟩) main_v27) maximumf,
    binary main_v27 main_arg10 main_v28 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg11 main_v29 (broadcastInDim S1x64 ![1] bcast_S64_S1x64_1 : (⟨S64, .f32⟩ : BufTy).Contents (Elt F) → (⟨S1x64, .f32⟩ : BufTy).Contents (Elt F)),
    unary main_v29 main_v30 (broadcastInDim S16384x64 ![0, 1] bcast_S1x64_S16384x64_0_1 : (⟨S1x64, .f32⟩ : BufTy).Contents (Elt F) → (⟨S16384x64, .f32⟩ : BufTy).Contents (Elt F)),
    binary main_v28 main_v30 main_v31 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16384x64, .f32⟩) main_call4_v0) (broadcastInDim S16384x64 ![] bcast_S_S16384x64),
    TRef.binary (TRef.of (T := ⟨S16384x64, .f32⟩) main_v31) (TRef.of (T := ⟨S16384x64, .f32⟩) main_call4_v0) (TRef.of (T := ⟨S16384x64, .f32⟩) main_v32) maximumf,
    binary main_v32 main_arg12 main_v33 ((fun l r => Host.dotGeneral dot_S16384x64_S64x5_S16384x5_1_0_0_1_n_n none l r) : (⟨S16384x64, .f32⟩ : BufTy).Contents (Elt F) → (⟨S64x5, .f32⟩ : BufTy).Contents (Elt F) → (⟨S16384x5, .f32⟩ : BufTy).Contents (Elt F)),
    unary main_arg13 main_v34 (broadcastInDim S1x5 ![1] bcast_S5_S1x5_1 : (⟨S5, .f32⟩ : BufTy).Contents (Elt F) → (⟨S1x5, .f32⟩ : BufTy).Contents (Elt F)),
    unary main_v34 main_v35 (broadcastInDim S16384x5 ![0, 1] bcast_S1x5_S16384x5_0_1 : (⟨S1x5, .f32⟩ : BufTy).Contents (Elt F) → (⟨S16384x5, .f32⟩ : BufTy).Contents (Elt F)),
    binary main_v33 main_v35 main_v36 (addf : (⟨S16384x5, .f32⟩ : BufTy).Contents (Elt F) → (⟨S16384x5, .f32⟩ : BufTy).Contents (Elt F) → (⟨S16384x5, .f32⟩ : BufTy).Contents (Elt F)) ]

/-- The buffers that `opsMlp` writes. -/
abbrev opsMlpW : List (Ref sig .tc) :=
  [main_v22, main_v23, main_v24, main_v25, main_v26, main_call3_cst, main_call3_v0, main_v27, main_v28, main_v29, main_v30, main_v31, main_call4_cst, main_call4_v0, main_v32, main_v33, main_v34, main_v35, main_v36]

/-- The reference's operations of the log-softmax, in order. -/
abbrev opsLsm : List (HloOp τ sig (Elt F)) :=
  [ TRef.nullary (TRef.of (T := ⟨S_, .f32⟩) main_call5_cst) (constant S_ .f32 0xFF800000#32),
    TRef.binary (TRef.of (T := ⟨S16384x5, .f32⟩) main_v36) (TRef.of (T := ⟨S_, .f32⟩) main_call5_cst) (TRef.of (T := ⟨S16384, .f32⟩) main_call5_v0) (fun x v => Host.reduce FloatOps.maximumf x v reducesTo_S16384x5_S16384_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S16384, .f32⟩) main_call5_v1) (broadcastInDim S16384 ![] bcast_S_S16384),
    TRef.binary (TRef.of (T := ⟨S16384, .f32⟩) main_call5_v1) (TRef.of (T := ⟨S16384, .f32⟩) main_call5_v0) (TRef.of (T := ⟨S16384, .f32⟩) main_call5_v2) maximumf,
    TRef.unary (TRef.of (T := ⟨S16384, .f32⟩) main_call5_v2) (TRef.of (T := ⟨S16384x1, .f32⟩) main_call5_v3) (broadcastInDim S16384x1 ![0] bcast_S16384_S16384x1_0),
    TRef.unary (TRef.of (T := ⟨S16384x1, .f32⟩) main_call5_v3) (TRef.of (T := ⟨S16384x5, .f32⟩) main_call5_v4) (broadcastInDim S16384x5 ![0, 1] bcast_S16384x1_S16384x5_0_1),
    TRef.binary (TRef.of (T := ⟨S16384x5, .f32⟩) main_v36) (TRef.of (T := ⟨S16384x5, .f32⟩) main_call5_v4) (TRef.of (T := ⟨S16384x5, .f32⟩) main_call5_v5) subf,
    TRef.unary (TRef.of (T := ⟨S16384x5, .f32⟩) main_call5_v5) (TRef.of (T := ⟨S16384x5, .f32⟩) main_call5_v6) Host.exp,
    TRef.nullary (TRef.of (T := ⟨S_, .f32⟩) main_call5_cst_1) (constant S_ .f32 0x00000000#32),
    TRef.binary (TRef.of (T := ⟨S16384x5, .f32⟩) main_call5_v6) (TRef.of (T := ⟨S_, .f32⟩) main_call5_cst_1) (TRef.of (T := ⟨S16384, .f32⟩) main_call5_v7) (fun x v => Host.reduceAdd x v reducesTo_S16384x5_S16384_d1 h_S_),
    TRef.unary (TRef.of (T := ⟨S16384, .f32⟩) main_call5_v7) (TRef.of (T := ⟨S16384x1, .f32⟩) main_call5_v8) (broadcastInDim S16384x1 ![0] bcast_S16384_S16384x1_0),
    TRef.unary (TRef.of (T := ⟨S16384x1, .f32⟩) main_call5_v8) (TRef.of (T := ⟨S16384x1, .f32⟩) main_call5_v9) Host.log,
    TRef.unary (TRef.of (T := ⟨S16384x1, .f32⟩) main_call5_v9) (TRef.of (T := ⟨S16384x5, .f32⟩) main_call5_v10) (broadcastInDim S16384x5 ![0, 1] bcast_S16384x1_S16384x5_0_1),
    TRef.binary (TRef.of (T := ⟨S16384x5, .f32⟩) main_call5_v5) (TRef.of (T := ⟨S16384x5, .f32⟩) main_call5_v10) (TRef.of (T := ⟨S16384x5, .f32⟩) main_v37) subf ]

/-- The buffers that `opsLsm` writes. -/
abbrev opsLsmW : List (Ref sig .tc) :=
  [main_call5_cst, main_call5_v0, main_call5_cst_0, main_call5_v1, main_call5_v2, main_call5_v3, main_call5_v4, main_call5_v5, main_call5_v6, main_call5_cst_1, main_call5_v7, main_call5_v8, main_call5_v9, main_call5_v10, main_v37]

/-- The reference's operations of the arg-max, in order. -/
abbrev opsArg : List (HloOp τ sig (Elt F)) :=
  [ TRef.nullary (TRef.of (T := ⟨S16384x5, .i32⟩) main_call6_v0) (iotaInDim S16384x5 32 1),
    TRef.nullary (TRef.of (T := ⟨S_, .f32⟩) main_call6_cst) (constant S_ .f32 0xFF800000#32),
    TRef.nullary (TRef.of (T := ⟨S_, .i32⟩) main_call6_c) (constantI S_ 32 0#32),
    TRef.quaternary (TRef.of (T := ⟨S16384x5, .f32⟩) main_v36) (TRef.of (T := ⟨S16384x5, .i32⟩) main_call6_v0) (TRef.of (T := ⟨S_, .f32⟩) main_call6_cst) (TRef.of (T := ⟨S_, .i32⟩) main_call6_c) (TRef.of (T := ⟨S16384, .f32⟩) main_call6_v1_0) (fun x y u v j => (Host.argReduce reducer_argmax_f32_i32 x y u v reducesTo_S16384x5_S16384_d1 h_S_ j).1),
    TRef.quaternary (TRef.of (T := ⟨S16384x5, .f32⟩) main_v36) (TRef.of (T := ⟨S16384x5, .i32⟩) main_call6_v0) (TRef.of (T := ⟨S_, .f32⟩) main_call6_cst) (TRef.of (T := ⟨S_, .i32⟩) main_call6_c) (TRef.of (T := ⟨S16384, .i32⟩) main_v38) (fun x y u v j => (Host.argReduce reducer_argmax_f32_i32 x y u v reducesTo_S16384x5_S16384_d1 h_S_ j).2),
    unary main_v38 main_v39 (broadcastInDim S16384x1 ![0] bcast_S16384_S16384x1_0 : (⟨S16384, .i32⟩ : BufTy).Contents (Elt F) → (⟨S16384x1, .i32⟩ : BufTy).Contents (Elt F)) ]

/-- The buffers that `opsArg` writes. -/
abbrev opsArgW : List (Ref sig .tc) :=
  [main_call6_v0, main_call6_cst, main_call6_c, main_call6_v1_0, main_v38, main_v39]

/-- The reference's operations of the selection of the action's log-probability, in order. -/
abbrev opsTake : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S16384x1, .i32⟩) main_call7_v0) (broadcastInDim S16384x1 ![] bcast_S_S16384x1),
    TRef.binary (TRef.of (T := ⟨S16384x1, .i32⟩) main_v39) (TRef.of (T := ⟨S16384x1, .i32⟩) main_call7_v0) (TRef.of (T := ⟨S16384x1, .i1⟩) main_call7_v1) (cmpi .slt),
    TRef.nullary (TRef.of (T := ⟨S_, .i32⟩) main_call7_c_0) (constantI S_ 32 5#32),
    TRef.unary (TRef.of (T := ⟨S_, .i32⟩) main_call7_c_0) (TRef.of (T := ⟨S16384x1, .i32⟩) main_call7_v2) (broadcastInDim S16384x1 ![] bcast_S_S16384x1),
    TRef.binary (TRef.of (T := ⟨S16384x1, .i32⟩) main_v39) (TRef.of (T := ⟨S16384x1, .i32⟩) main_call7_v2) (TRef.of (T := ⟨S16384x1, .i32⟩) main_call7_v3) addi,
    TRef.ternary (TRef.of (T := ⟨S16384x1, .i1⟩) main_call7_v1) (TRef.of (T := ⟨S16384x1, .i32⟩) main_call7_v3) (TRef.of (T := ⟨S16384x1, .i32⟩) main_v39) (TRef.of (T := ⟨S16384x1, .i32⟩) main_call7_v4) select,
    TRef.reshape (TRef.of (T := ⟨S16384x1, .i32⟩) main_call7_v4) (TRef.of (T := ⟨S16384x1x1, .i32⟩) main_call7_v5) (rfl : (.i32 : EltTy) = .i32) shapeCasts_S16384x1_S16384x1x1,
    TRef.nullary (TRef.of (T := ⟨S1, .i32⟩) main_call7_c_1) (constantI S1 32 4#32),
    TRef.nullary (TRef.of (T := ⟨S_, .i32⟩) main_call7_c_2) (constantI S_ 32 0#32),
    TRef.unary (TRef.of (T := ⟨S_, .i32⟩) main_call7_c_2) (TRef.of (T := ⟨S16384x1x1, .i32⟩) main_call7_v6) (broadcastInDim S16384x1x1 ![] bcast_S_S16384x1x1),
    TRef.binary (TRef.of (T := ⟨S16384x1x1, .i32⟩) main_call7_v5) (TRef.of (T := ⟨S16384x1x1, .i32⟩) main_call7_v6) (TRef.of (T := ⟨S16384x1x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S16384x1x1, .i32⟩) main_call7_v9) (broadcastInDim S16384x1x1 ![0, 1, 2] bcast_S1x1x1_S16384x1x1_0_1_2),
    TRef.binary (TRef.of (T := ⟨S16384x1x1, .i32⟩) main_call7_v5) (TRef.of (T := ⟨S16384x1x1, .i32⟩) main_call7_v9) (TRef.of (T := ⟨S16384x1x1, .i1⟩) main_call7_v10) (cmpi .sle),
    TRef.binary (TRef.of (T := ⟨S16384x1x1, .i1⟩) main_call7_v7) (TRef.of (T := ⟨S16384x1x1, .i1⟩) main_call7_v10) (TRef.of (T := ⟨S16384x1x1, .i1⟩) main_call7_v11) andi,
    TRef.nullary (TRef.of (T := ⟨S_, .i1⟩) main_call7_c_3) (constantI S_ 1 1#1),
    TRef.binary (TRef.of (T := ⟨S16384x1x1, .i1⟩) main_call7_v11) (TRef.of (T := ⟨S_, .i1⟩) main_call7_c_3) (TRef.of (T := ⟨S16384x1, .i1⟩) main_call7_v12) (fun x v => Host.reduce IntOp.andi x v reducesTo_S16384x1x1_S16384x1_d2 h_S_),
    TRef.binary (TRef.of (T := ⟨S16384x5, .f32⟩) main_v37) (TRef.of (T := ⟨S16384x1x1, .i32⟩) main_call7_v5) (TRef.of (T := ⟨S16384x1, .f32⟩) main_call7_v13) (fun x i => Host.gather gather_S16384x5_S16384x1x1_S16384x1_n_1_0_0_1_2_11 x i),
    TRef.nullary (TRef.of (T := ⟨S_, .f32⟩) main_call7_cst) (constant S_ .f32 0x7FC00000#32),
    TRef.unary (TRef.of (T := ⟨S_, .f32⟩) main_call7_cst) (TRef.of (T := ⟨S16384x1, .f32⟩) main_call7_v14) (broadcastInDim S16384x1 ![] bcast_S_S16384x1),
    TRef.ternary (TRef.of (T := ⟨S16384x1, .i1⟩) main_call7_v12) (TRef.of (T := ⟨S16384x1, .f32⟩) main_call7_v13) (TRef.of (T := ⟨S16384x1, .f32⟩) main_call7_v14) (TRef.of (T := ⟨S16384x1, .f32⟩) main_v40) select ]

/-- The buffers that `opsTake` writes. -/
abbrev opsTakeW : List (Ref sig .tc) :=
  [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v40]

/-- All of the reference's operations. -/
abbrev ops : List (HloOp τ sig (Elt F)) :=
  opsGnn ++ opsPick ++ opsMlp ++ opsLsm ++ opsArg ++ opsTake

set_option maxRecDepth 8192 in
set_option maxHeartbeats 4000000 in
/-- The program is its operations one after the other. -/
theorem main_eq (c : Dev nD) : main (F := F) c = seq ops := rfl

/-- Every buffer of `opsGnn` is one of the device's. -/
theorem opsGnn_sub : (opsGnn : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub ..⟩

/-- Every buffer of `opsPick` is one of the device's. -/
theorem opsPick_sub : (opsPick : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

/-- Every buffer of `opsMlp` is one of the device's. -/
theorem opsMlp_sub : (opsMlp : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Every buffer of `opsLsm` is one of the device's. -/
theorem opsLsm_sub : (opsLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every buffer of `opsArg` is one of the device's. -/
theorem opsArg_sub : (opsArg : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..⟩

/-- Every buffer of `opsTake` is one of the device's. -/
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- What `opsGnn` leaves in its last buffer. -/
theorem after_Gnn (V : Valuation τ sig (Elt F)) :
    after opsGnn V (Proc.devRef .tc main_v17) = gnnR (V (Proc.devRef .tc main_arg1)) (V (Proc.devRef .tc main_arg2)) (V (Proc.devRef .tc main_arg4)) (V (Proc.devRef .tc main_arg5)) (V (Proc.devRef .tc main_arg6)) (V (Proc.devRef .tc main_arg7)) := by
  simp only [opsGnn, TRef.binary, TRef.nullary, TRef.quaternary, TRef.reshape, TRef.ternary, TRef.unary, TRef.toBuf, TRef.ofBuf, cast_eq]
  after_results_simp <;> rfl

/-- `opsGnn` leaves every other buffer as it was. -/
theorem keep_Gnn (V : Valuation τ sig (Elt F)) {r : Ref sig .tc} (hr : r ∉ opsGnnW) :
    after opsGnn V (Proc.devRef .tc r) = V (Proc.devRef .tc r) :=
  after_unwritten opsGnnW rfl hr V

/-- What `opsPick` leaves in its last buffer. -/
theorem after_Pick (V : Valuation τ sig (Elt F)) :
    after opsPick V (Proc.devRef .tc main_v21) = pickR (V (Proc.devRef .tc main_v17)) (V (Proc.devRef .tc main_arg3)) := by
  simp only [opsPick, TRef.binary, TRef.nullary, TRef.quaternary, TRef.reshape, TRef.ternary, TRef.unary, TRef.toBuf, TRef.ofBuf, cast_eq]
  after_results_simp <;> rfl

/-- `opsPick` leaves every other buffer as it was. -/
theorem keep_Pick (V : Valuation τ sig (Elt F)) {r : Ref sig .tc} (hr : r ∉ opsPickW) :
    after opsPick V (Proc.devRef .tc r) = V (Proc.devRef .tc r) :=
  after_unwritten opsPickW rfl hr V

/-- What `opsMlp` leaves in its last buffer. -/
theorem after_Mlp (V : Valuation τ sig (Elt F)) :
    after opsMlp V (Proc.devRef .tc main_v36) = mlpR (V (Proc.devRef .tc main_arg0)) (V (Proc.devRef .tc main_v21)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [opsMlp, TRef.binary, TRef.nullary, TRef.quaternary, TRef.reshape, TRef.ternary, TRef.unary, TRef.toBuf, TRef.ofBuf, cast_eq]
  after_results_simp <;> rfl

/-- `opsMlp` leaves every other buffer as it was. -/
theorem keep_Mlp (V : Valuation τ sig (Elt F)) {r : Ref sig .tc} (hr : r ∉ opsMlpW) :
    after opsMlp V (Proc.devRef .tc r) = V (Proc.devRef .tc r) :=
  after_unwritten opsMlpW rfl hr V

/-- What `opsLsm` leaves in its last buffer. -/
theorem after_Lsm (V : Valuation τ sig (Elt F)) :
    after opsLsm V (Proc.devRef .tc main_v37) = lsmR (V (Proc.devRef .tc main_v36)) := by
  simp only [opsLsm, TRef.binary, TRef.nullary, TRef.quaternary, TRef.reshape, TRef.ternary, TRef.unary, TRef.toBuf, TRef.ofBuf, cast_eq]
  after_results_simp <;> rfl

/-- `opsLsm` leaves every other buffer as it was. -/
theorem keep_Lsm (V : Valuation τ sig (Elt F)) {r : Ref sig .tc} (hr : r ∉ opsLsmW) :
    after opsLsm V (Proc.devRef .tc r) = V (Proc.devRef .tc r) :=
  after_unwritten opsLsmW rfl hr V

/-- What `opsArg` leaves in its last buffer. -/
theorem after_Arg (V : Valuation τ sig (Elt F)) :
    after opsArg V (Proc.devRef .tc main_v39) = argR (V (Proc.devRef .tc main_v36)) := by
  simp only [opsArg, TRef.binary, TRef.nullary, TRef.quaternary, TRef.reshape, TRef.ternary, TRef.unary, TRef.toBuf, TRef.ofBuf, cast_eq]
  after_results_simp <;> rfl

/-- `opsArg` leaves every other buffer as it was. -/
theorem keep_Arg (V : Valuation τ sig (Elt F)) {r : Ref sig .tc} (hr : r ∉ opsArgW) :
    after opsArg V (Proc.devRef .tc r) = V (Proc.devRef .tc r) :=
  after_unwritten opsArgW rfl hr V

/-- What `opsTake` leaves in its last buffer. -/
theorem after_Take (V : Valuation τ sig (Elt F)) :
    after opsTake V (Proc.devRef .tc main_v40) = takeR (V (Proc.devRef .tc main_v37)) (V (Proc.devRef .tc main_v39)) := by
  simp only [opsTake, TRef.binary, TRef.nullary, TRef.quaternary, TRef.reshape, TRef.ternary, TRef.unary, TRef.toBuf, TRef.ofBuf, cast_eq]
  after_results_simp <;> rfl

/-- `opsTake` leaves every other buffer as it was. -/
theorem keep_Take (V : Valuation τ sig (Elt F)) {r : Ref sig .tc} (hr : r ∉ opsTakeW) :
    after opsTake V (Proc.devRef .tc r) = V (Proc.devRef .tc r) :=
  after_unwritten opsTakeW rfl hr V

/-- Every operation of `opsGnn` determines what it writes. -/
theorem opsGnn_fresh : ∀ op ∈ (opsGnn : List (HloOp τ sig (Elt F))), op.fresh = ∅ := by
  intro _ h; (repeat (cases h with | head => rfl | tail _ h => ?_)); exact nomatch h

/-- Every operation of `opsPick` determines what it writes. -/
theorem opsPick_fresh : ∀ op ∈ (opsPick : List (HloOp τ sig (Elt F))), op.fresh = ∅ := by
  intro _ h; (repeat (cases h with | head => rfl | tail _ h => ?_)); exact nomatch h

/-- Every operation of `opsMlp` determines what it writes. -/
theorem opsMlp_fresh : ∀ op ∈ (opsMlp : List (HloOp τ sig (Elt F))), op.fresh = ∅ := by
  intro _ h; (repeat (cases h with | head => rfl | tail _ h => ?_)); exact nomatch h

/-- Every operation of `opsLsm` determines what it writes. -/
theorem opsLsm_fresh : ∀ op ∈ (opsLsm : List (HloOp τ sig (Elt F))), op.fresh = ∅ := by
  intro _ h; (repeat (cases h with | head => rfl | tail _ h => ?_)); exact nomatch h

/-- Every operation of `opsArg` determines what it writes. -/
theorem opsArg_fresh : ∀ op ∈ (opsArg : List (HloOp τ sig (Elt F))), op.fresh = ∅ := by
  intro _ h; (repeat (cases h with | head => rfl | tail _ h => ?_)); exact nomatch h

/-- Every operation of `opsTake` determines what it writes. -/
theorem opsTake_fresh : ∀ op ∈ (opsTake : List (HloOp τ sig (Elt F))), op.fresh = ∅ := by
  intro _ h; (repeat (cases h with | head => rfl | tail _ h => ?_)); exact nomatch h

/-- Every buffer of the operations is one of the device's. -/
theorem ops_sub : (ops : List (HloOp τ sig (Elt F))).Forall fun op => op.bufs ⊆ tcRefs τ sig := by
  simp only [List.forall_append]
  exact ⟨⟨⟨⟨⟨opsGnn_sub, opsPick_sub⟩, opsMlp_sub⟩, opsLsm_sub⟩, opsArg_sub⟩, opsTake_sub⟩

/-- Every operation determines what it writes. -/
theorem ops_fresh : ∀ op ∈ (ops : List (HloOp τ sig (Elt F))), op.fresh = ∅ := by
  intro op h
  simp only [List.mem_append] at h
  rcases h with ((((h | h) | h) | h) | h) | h
  exacts [opsGnn_fresh op h, opsPick_fresh op h, opsMlp_fresh op h, opsLsm_fresh op h, opsArg_fresh op h, opsTake_fresh op h]

/-- No reference is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

/-- The operations leave every buffer that none of them writes as it was. -/
theorem keep (V : Valuation τ sig (Elt F)) {r : Ref sig .tc} (h1 : r ∉ opsGnnW) (h2 : r ∉ opsPickW) (h3 : r ∉ opsMlpW)
    (h4 : r ∉ opsLsmW) (h5 : r ∉ opsArgW) (h6 : r ∉ opsTakeW) :
    after ops V (Proc.devRef .tc r) = V (Proc.devRef .tc r) := by
  simp only [after_append]
  rw [keep_Take _ h6, keep_Arg _ h5, keep_Lsm _ h4, keep_Mlp _ h3, keep_Pick _ h2, keep_Gnn _ h1]

/-- The logits, of the fourteen arguments. -/
def logitsR (obs : FVec F S16384x48 .f32) (nodes : FVec F S16384x50x16 .f32) (adj : FVec F S16384x50x50 .f32) (ids : IVec S16384x1 32)
    (w1 : FVec F S16x64 .f32) (b1 : FVec F S64 .f32) (w2 : FVec F S64x64 .f32) (b2 : FVec F S64 .f32)
    (m1 : FVec F S112x64 .f32) (c1 : FVec F S64 .f32) (m2 : FVec F S64x64 .f32) (c2 : FVec F S64 .f32)
    (wa : FVec F S64x5 .f32) (ba : FVec F S5 .f32) : FVec F S16384x5 .f32 :=
  mlpR obs (pickR (gnnR nodes adj w1 b1 w2 b2) ids) m1 c1 m2 c2 wa ba

/-- The logits, of a device's arguments. -/
abbrev logitsV (V : Valuation τ sig (Elt F)) : FVec F S16384x5 .f32 :=
  logitsR (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13))

/-- What the first three lists leave in the logits' buffer. -/
theorem after_logits (V : Valuation τ sig (Elt F)) :
    after opsMlp (after opsPick (after opsGnn V)) (Proc.devRef .tc main_v36) = logitsV V := by
  rw [after_Mlp, after_Pick, after_Gnn]
  repeat rw [keep_Pick _ (by decide)]
  repeat rw [keep_Gnn _ (by decide)]
  rfl

/-- The first result: the position of the greatest logit. -/
theorem after_v39 (V : Valuation τ sig (Elt F)) :
    after ops V (Proc.devRef .tc main_v39) = argR (logitsV V) := by
  simp only [after_append]
  rw [keep_Take _ (by decide), after_Arg, keep_Lsm _ (by decide), after_logits]

/-- The second result: the log-softmax at that position. -/
theorem after_v40 (V : Valuation τ sig (Elt F)) :
    after ops V (Proc.devRef .tc main_v40) = takeR (lsmR (logitsV V)) (argR (logitsV V)) := by
  simp only [after_append]
  rw [after_Take, after_Arg, keep_Arg _ (by decide), after_Lsm, keep_Lsm _ (by decide), after_logits]

/-- From any memory with zero counters the program ends with its two results at the stages' functions of the arguments
    and with the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = argR (logitsV (launchContents m c))
      ∧ r.2.mem ((c.tc : Thread nD τ).loc main_v40) = takeR (lsmR (logitsV (launchContents m c))) (argR (logitsV (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
      have k : ∀ {r : Ref sig .tc}, r ∉ opsGnnW → r ∉ opsPickW → r ∉ opsMlpW → r ∉ opsLsmW → r ∉ opsArgW → r ∉ opsTakeW →
          _ = launchContents m c (Proc.devRef .tc r) := fun {r} h1 h2 h3 h4 h5 h6 => (h c r).trans (keep _ h1 h2 h3 h4 h5 h6)
      ⟨(h c main_v39).trans (after_v39 _), (h c main_v40).trans (after_v40 _),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide),
        k (by decide) (by decide) (by decide) (by decide) (by decide) (by decide)⟩)
    (run_seq scopedRefs_eq scopedSems_eq defs main (fun _ => ops) main_eq (fun _ => ops_sub) m ρ (fun _ => ops_fresh))

end Cert.Proof.Ref

end
-- ==== Proof.RefVal.lean ====
/- The reference's stages, read at an index: each is the element's mathematics. -/
module

public import proofs.«01_k».proof.Proof.RefRun
public import proofs.«01_k».proof.Proof.Spec

@[expose] public section

set_option maxRecDepth 16384

noncomputable section

namespace Cert.Proof.Ref

open Cert.ReferenceIdeal Cert.ReferenceIdeal.Gen Idealize.ShloMosaic

/-- The normalised adjacency of an element. -/
theorem normR_apply (adj : FVec Ideal S16384x50x50 .f32) (b : Fin 16384) (n k : Fin 50) :
    normR adj (ix3 b n k) = normS (fun n k => adj (ix3 b n k)) n k := by
  pointwise [normR, normS, eps]

/-- The first graph layer of an element. -/
theorem hidR_apply (h : FVec Ideal S16384x50x16 .f32) (w : FVec Ideal S16x64 .f32) (c : FVec Ideal S64 .f32)
    (b : Fin 16384) (n : Fin 50) (k : Fin 64) :
    hidR h w c (ix3 b n k) = layerS (fun i => h (ix3 b n i)) (fun i k => w (ix2 i k)) (fun k => c (ix1 k)) k := by
  pointwise [hidR, relu3, bias3, layerS]

/-- The second graph layer of an element. -/
theorem hidR2_apply (h : FVec Ideal S16384x50x64 .f32) (w : FVec Ideal S64x64 .f32) (c : FVec Ideal S64 .f32)
    (b : Fin 16384) (n : Fin 50) (k : Fin 64) :
    hidR2 h w c (ix3 b n k) = layerS (fun i => h (ix3 b n i)) (fun i k => w (ix2 i k)) (fun k => c (ix1 k)) k := by
  pointwise [hidR2, relu3, bias3, layerS]

/-- The aggregation of an element. -/
theorem aggR_apply (a : FVec Ideal S16384x50x50 .f32) (h : FVec Ideal S16384x50x64 .f32) (b : Fin 16384) (n : Fin 50) (k : Fin 64) :
    aggR a h (ix3 b n k) = aggS (fun n k => a (ix3 b n k)) (fun n k => h (ix3 b n k)) n k := by
  pointwise [aggR, aggS]

/-- The graph layers of an element. -/
theorem gnnR_apply (nodes : FVec Ideal S16384x50x16 .f32) (adj : FVec Ideal S16384x50x50 .f32) (w1 : FVec Ideal S16x64 .f32)
    (b1 : FVec Ideal S64 .f32) (w2 : FVec Ideal S64x64 .f32) (b2 : FVec Ideal S64 .f32) (b : Fin 16384) (n : Fin 50) (k : Fin 64) :
    gnnR nodes adj w1 b1 w2 b2 (ix3 b n k)
      = gnnS (fun n i => nodes (ix3 b n i)) (fun n k => adj (ix3 b n k)) (fun i k => w1 (ix2 i k)) (fun k => b1 (ix1 k))
          (fun i k => w2 (ix2 i k)) (fun k => b2 (ix1 k)) n k := by
  simp only [gnnR, gnnS, aggR_apply, normR_apply, hidR2_apply, hidR_apply]

/-- The policy network's first layer, of an element. -/
theorem fc1R_apply (obs : FVec Ideal S16384x48 .f32) (nbd : FVec Ideal S16384x64 .f32) (w : FVec Ideal S112x64 .f32)
    (c : FVec Ideal S64 .f32) (b : Fin 16384) (k : Fin 64) :
    fc1R obs nbd w c (ix2 b k)
      = fc1S (fun i => obs (ix2 b i)) (fun i => nbd (ix2 b i)) (fun i k => w (ix2 ⟨i.val, by omega⟩ k))
          (fun i k => w (ix2 ⟨48 + i.val, by omega⟩ k)) (fun k => c (ix1 k)) k := by
  pointwise [fc1R, relu2, bias2, catR, fc1S]

/-- The policy network's second layer, of an element. -/
theorem fc2R_apply (x : FVec Ideal S16384x64 .f32) (w : FVec Ideal S64x64 .f32) (c : FVec Ideal S64 .f32) (b : Fin 16384) (k : Fin 64) :
    fc2R x w c (ix2 b k) = layerS (fun i => x (ix2 b i)) (fun i k => w (ix2 i k)) (fun k => c (ix1 k)) k := by
  pointwise [fc2R, relu2, bias2, layerS]

/-- The logits of an element, of its second layer. -/
theorem actR_apply (x : FVec Ideal S16384x64 .f32) (w : FVec Ideal S64x5 .f32) (c : FVec Ideal S5 .f32) (b : Fin 16384) (k : Fin 5) :
    actR x w c (ix2 b k) = ∑ i, x (ix2 b i) * w (ix2 i k) + c (ix1 k) := by
  pointwise [actR]

/-- A small position's word, read signed, is the position. -/
theorem toNat_ofNat {N : ℕ} (p : Fin N) (hN : N ≤ 50) : (BitVec.ofNat 32 p.val).toInt.toNat = p.val := by
  have h : p.val < 50 := lt_of_lt_of_le p.isLt hN
  rw [BitVec.toInt_eq_toNat_of_lt (by rw [BitVec.toNat_ofNat]; omega), BitVec.toNat_ofNat]
  omega

/-- The gather of an element's node reads that element at the node its start index names, feature by feature. -/
theorem node_idx (ix : IVec S16384x1x64x1 32) (b : Fin 16384) (k : Fin 64) (p : Fin 50)
    (hp : ix (ix4 b 0 k 0) = BitVec.ofNat 32 p.val) :
    gather_S16384x50x64_S16384x1x64x1_S16384x1x64_n_1_02_02_1_3_111.operandIdx (ix3 b 0 k) ix = ix3 b p k := by
  funext a
  apply Fin.ext
  simp only [GatherDims.operandIdx]
  match a with
  | ⟨0, h⟩ =>
    rw [GatherDims.start_batching _ _ _ _ (by decide +revert), GatherDims.offCoord_eq_zero _ _ _ (by decide +revert)]
    simp only [Nat.zero_add, Nat.add_zero]
    rfl
  | ⟨1, h⟩ =>
    rw [GatherDims.batchCoord_eq_zero _ _ _ (by decide +revert), GatherDims.offCoord_eq_zero _ _ _ (by decide +revert), GatherDims.start, dif_pos (by decide +revert)]
    have e : ∀ c, gather_S16384x50x64_S16384x1x64x1_S16384x1x64_n_1_02_02_1_3_111.siIdx (ix3 b 0 k) c = ix4 b 0 k 0 := fun c => by
      funext x
      match x with
      | ⟨0, _⟩ => rfl
      | ⟨1, _⟩ => rfl
      | ⟨2, _⟩ => rfl
      | ⟨3, _⟩ => exact Subsingleton.elim (α := Fin 1) _ _
    rw [e, hp, toNat_ofNat p (by decide +revert)]
    show min p.val (50 - 1) + 0 + 0 = p.val
    omega
  | ⟨2, h⟩ =>
    rw [GatherDims.start_batching _ _ _ _ (by decide +revert), GatherDims.offCoord_eq_zero _ _ _ (by decide +revert)]
    simp only [Nat.zero_add, Nat.add_zero]
    rfl

/-- The gather of an element's action reads that element at the action its start index names. -/
theorem action_idx (ix : IVec S16384x1x1 32) (b : Fin 16384) (p : Fin 5)
    (hp : ix (ix3 b 0 0) = BitVec.ofNat 32 p.val) :
    gather_S16384x5_S16384x1x1_S16384x1_n_1_0_0_1_2_11.operandIdx (ix2 b 0) ix = ix2 b p := by
  funext a
  apply Fin.ext
  simp only [GatherDims.operandIdx]
  match a with
  | ⟨0, h⟩ =>
    rw [GatherDims.start_batching _ _ _ _ (by decide +revert), GatherDims.offCoord_eq_zero _ _ _ (by decide +revert)]
    simp only [Nat.zero_add, Nat.add_zero]
    rfl
  | ⟨1, h⟩ =>
    rw [GatherDims.batchCoord_eq_zero _ _ _ (by decide +revert), GatherDims.offCoord_eq_zero _ _ _ (by decide +revert), GatherDims.start, dif_pos (by decide +revert)]
    have e : ∀ c, gather_S16384x5_S16384x1x1_S16384x1_n_1_0_0_1_2_11.siIdx (ix2 b 0) c = ix3 b 0 0 := fun c => by
      funext x
      match x with
      | ⟨0, _⟩ => rfl
      | ⟨1, _⟩ => rfl
      | ⟨2, _⟩ => exact Subsingleton.elim (α := Fin 1) _ _
    rw [e, hp, toNat_ofNat p (by decide +revert)]
    show min p.val (5 - 1) + 0 + 0 = p.val
    omega

/-- A small position is not negative, so it is not counted from the end. -/
theorem posR_apply (ids : IVec S16384x1 32) (b : Fin 16384) (k : Fin 64) (p : Fin 50) (hp : ids (ix2 b 0) = BitVec.ofNat 32 p.val) :
    posR ids (ix4 b 0 k 0) = BitVec.ofNat 32 p.val := by
  have : posR ids (ix4 b 0 k 0) = Scalar.select (IntOp.cmpi .slt (ids (ix2 b 0)) 0#32) (IntOp.addi (ids (ix2 b 0)) 50#32) (ids (ix2 b 0)) := by
    pointwise [posR, spreadR]
  rw [this, hp]
  clear hp; revert p
  decide +kernel

/-- A small position names a node. -/
theorem okR_apply (ids : IVec S16384x1 32) (b : Fin 16384) (k : Fin 64) (p : Fin 50) (hp : ids (ix2 b 0) = BitVec.ofNat 32 p.val) :
    okR ids (ix3 b 0 k) = 1#1 := by
  pointwise [okR, posR, spreadR]
  rw [hp]
  clear hp; revert p
  decide +kernel

/-- An element's row of its own node. -/
theorem pickR_apply (h : FVec Ideal S16384x50x64 .f32) (ids : IVec S16384x1 32) (b : Fin 16384) (k : Fin 64) (p : Fin 50)
    (hp : ids (ix2 b 0) = BitVec.ofNat 32 p.val) : pickR h ids (ix2 b k) = h (ix3 b p k) := by
  pointwise [pickR]
  rw [okR_apply ids b k p hp, Host.gather, node_idx _ b k p (posR_apply ids b k p hp)]
  rfl

/-- The logits of an element whose agent is node `p`. -/
theorem logitsR_apply (obs : FVec Ideal S16384x48 .f32) (nodes : FVec Ideal S16384x50x16 .f32) (adj : FVec Ideal S16384x50x50 .f32)
    (ids : IVec S16384x1 32) (w1 : FVec Ideal S16x64 .f32) (b1 : FVec Ideal S64 .f32) (w2 : FVec Ideal S64x64 .f32) (b2 : FVec Ideal S64 .f32)
    (m1 : FVec Ideal S112x64 .f32) (c1 : FVec Ideal S64 .f32) (m2 : FVec Ideal S64x64 .f32) (c2 : FVec Ideal S64 .f32)
    (wa : FVec Ideal S64x5 .f32) (ba : FVec Ideal S5 .f32) (b : Fin 16384) (k : Fin 5) (p : Fin 50) (hp : ids (ix2 b 0) = BitVec.ofNat 32 p.val) :
    logitsR obs nodes adj ids w1 b1 w2 b2 m1 c1 m2 c2 wa ba (ix2 b k)
      = actS (fc1S (fun i => obs (ix2 b i))
          (gnnS (fun n i => nodes (ix3 b n i)) (fun n k => adj (ix3 b n k)) (fun i k => w1 (ix2 i k)) (fun k => b1 (ix1 k))
            (fun i k => w2 (ix2 i k)) (fun k => b2 (ix1 k)) p)
          (fun i k => m1 (ix2 ⟨i.val, by omega⟩ k)) (fun i k => m1 (ix2 ⟨48 + i.val, by omega⟩ k)) (fun k => c1 (ix1 k)))
        (fun i k => m2 (ix2 i k)) (fun k => c2 (ix1 k)) (fun i k => wa (ix2 i k)) (fun k => ba (ix1 k)) k := by
  simp only [logitsR, mlpR, actR_apply, fc2R_apply, fc1R_apply, pickR_apply _ ids b _ p hp, gnnR_apply, actS]

/-- A row's greatest logit, as the log-softmax computes it. -/
theorem shiftR_apply (l : FVec Ideal S16384x5 .f32) (b : Fin 16384) (k : Fin 5) :
    shiftR l (ix2 b k) = l (ix2 b k) - topS fun x => l (ix2 b x) := by
  pointwise [shiftR, topS]
  rw [ofBits_bot]
  simp

/-- The log-softmax at an index. -/
theorem lsmR_apply (l : FVec Ideal S16384x5 .f32) (b : Fin 16384) (k : Fin 5) :
    lsmR l (ix2 b k) = l (ix2 b k) - (topS fun x => l (ix2 b x))
      - Ideal.log (∑ x, Ideal.exp (l (ix2 b x) - topS fun x => l (ix2 b x))) := by
  pointwise [lsmR]
  simp only [shiftR_apply]

/-- A small action is not negative, so it is not counted from the end. -/
theorem posA_apply (act : IVec S16384x1 32) (b : Fin 16384) (p : Fin 5) (hp : act (ix2 b 0) = BitVec.ofNat 32 p.val) :
    posA act (ix3 b 0 0) = BitVec.ofNat 32 p.val := by
  pointwise [posA]
  rw [hp]
  clear hp; revert p
  decide +kernel

/-- A small action names an entry of the row. -/
theorem okA_apply (act : IVec S16384x1 32) (b : Fin 16384) (p : Fin 5) (hp : act (ix2 b 0) = BitVec.ofNat 32 p.val) :
    okA act (ix2 b 0) = 1#1 := by
  pointwise [okA, posA]
  rw [hp]
  clear hp; revert p
  decide +kernel

/-- A row's entry at its action. -/
theorem takeR_apply (lp : FVec Ideal S16384x5 .f32) (act : IVec S16384x1 32) (b : Fin 16384) (p : Fin 5)
    (hp : act (ix2 b 0) = BitVec.ofNat 32 p.val) : takeR lp act (ix2 b 0) = lp (ix2 b p) := by
  pointwise [takeR]
  rw [okA_apply act b p hp, Host.gather, action_idx _ b p (posA_apply act b p hp)]
  rfl

end Cert.Proof.Ref

end
-- ==== Proof.Array.lean ====
/- What the two output arrays hold after the kernel's run: every block reads its rows of the arguments, so the row of
   either output is the mathematics of that element, where its agent is a node and no row sum plus the constant is zero. -/
module

public import proofs.«01_k».proof.Proof.Gen.KernelIdeal.Value
public import proofs.«01_k».proof.Proof.Block
public import proofs.«01_k».proof.Proof.RefVal
public import Idealize.ShloMosaic.Lib.Pipeline.ValueKit
public import Idealize.ShloMosaic.Lib.Claim

@[expose] public section

set_option maxRecDepth 16384

noncomputable section

namespace Cert.Proof.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem idx : ∀ t : Fin cfg0.N, win0_0.index t = ![t.val, 0] ∧ win0_1.index t = ![t.val, 0, 0] ∧ win0_2.index t = ![t.val, 0, 0]
    ∧ win0_3.index t = ![t.val, 0] ∧ win0_4.index t = ![0, 0] ∧ win0_5.index t = ![0, 0, 0] ∧ win0_6.index t = ![0, 0]
    ∧ win0_7.index t = ![0, 0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] ∧ win0_16.index t = ![t.val, 0] :=
  (by decide +kernel : ∀ t : Fin grid0.N, _)

/-- The element of the batch at row `r` of grid point `t`'s block. -/
def row (t : Fin cfg0.N) (r : Fin 256) : Fin 16384 :=
  ⟨t.val * 256 + r.val, by have := t.isLt; have : cfg0.N = 64 := N_0; omega⟩

section Reads

variable (c : Dev nD) (t : Fin cfg0.N)

/-- A block's observations. -/
theorem blk0 (r : Fin 256) (i : Fin 48) :
    iblk m c 0 t (ix2 r i) = m ((c : Thread nD τ).loc main_arg0) (ix2 (row t r) i) := by
  blk_ext [iblk, V, idx t, row]

/-- A block's node features, which the launch's set-up has transposed. -/
theorem blk1 (r : Fin 256) (i : Fin 16) (n : Fin 50) :
    iblk m c 1 t (ix3 r i n) = m ((c : Thread nD τ).loc main_arg1) (ix3 (row t r) n i) := by
  have h : iblk m c 1 t (ix3 r i n) = V m c main_call0_v7 (ix3 (row t r) i n) := by
    blk_ext [iblk, idx t, row]
  rw [h]
  entry_read
  change transpose S16384x16x50 [0, 2, 1] (m ((c : Thread nD τ).loc main_arg1)) transposes_S16384x50x16_S16384x16x50_0_2_1 (ix3 (row t r) i n) = _
  pointwise

/-- A block's adjacency. -/
theorem blk2 (r : Fin 256) (n k : Fin 50) :
    iblk m c 2 t (ix3 r n k) = m ((c : Thread nD τ).loc main_arg2) (ix3 (row t r) n k) := by
  blk_ext [iblk, V, idx t, row]

/-- A block's agents. -/
theorem blk3 (r : Fin 256) :
    iblk m c 3 t (ix2 r 0) = m ((c : Thread nD τ).loc main_arg3) (ix2 (row t r) 0) := by
  blk_ext [iblk, V, idx t, row]

/-- The first graph layer's matrix. -/
theorem blk4 (i : Fin 16) (k : Fin 64) :
    iblk m c 4 t (ix2 i k) = m ((c : Thread nD τ).loc main_arg4) (ix2 i k) := by
  blk_ext [iblk, V, idx t, row]

/-- The first graph layer's bias. -/
theorem blk5 (k : Fin 64) :
    iblk m c 5 t (ix3 0 0 k) = m ((c : Thread nD τ).loc main_arg5) (ix1 k) := by
  blk_ext! [iblk, V, idx t, row]

/-- The second graph layer's matrix. -/
theorem blk6 (i : Fin 64) (k : Fin 64) :
    iblk m c 6 t (ix2 i k) = m ((c : Thread nD τ).loc main_arg6) (ix2 i k) := by
  blk_ext [iblk, V, idx t, row]

/-- The second graph layer's bias. -/
theorem blk7 (k : Fin 64) :
    iblk m c 7 t (ix3 0 0 k) = m ((c : Thread nD τ).loc main_arg7) (ix1 k) := by
  blk_ext! [iblk, V, idx t, row]

/-- The policy network's first matrix, the rows for the observation. -/
theorem blk8 (i : Fin 48) (k : Fin 64) :
    iblk m c 8 t (ix2 i k) = m ((c : Thread nD τ).loc main_arg8) (ix2 ⟨i.val, by omega⟩ k) := by
  have h : iblk m c 8 t (ix2 i k) = V m c main_call0_v0 (ix2 i k) := by
    blk_ext [iblk, idx t, row]
  rw [h]
  entry_read
  change extractStridedSlice S48x64 ![0, 0] (m ((c : Thread nD τ).loc main_arg8)) slices_S112x64_S48x64_0_0 (ix2 i k) = _
  pointwise

/-- The policy network's first matrix, the rows for the agent's node. -/
theorem blk9 (i : Fin 64) (k : Fin 64) :
    iblk m c 9 t (ix2 i k) = m ((c : Thread nD τ).loc main_arg8) (ix2 ⟨48 + i.val, by omega⟩ k) := by
  have h : iblk m c 9 t (ix2 i k) = V m c main_call0_v1 (ix2 i k) := by
    blk_ext [iblk, idx t, row]
  rw [h]
  entry_read
  change extractStridedSlice S64x64 ![48, 0] (m ((c : Thread nD τ).loc main_arg8)) slices_S112x64_S64x64_48_0 (ix2 i k) = _
  pointwise

/-- The policy network's first bias. -/
theorem blk10 (k : Fin 64) :
    iblk m c 10 t (ix2 0 k) = m ((c : Thread nD τ).loc main_arg9) (ix1 k) := by
  blk_ext! [iblk, V, idx t, row]

/-- The policy network's second matrix. -/
theorem blk11 (i : Fin 64) (k : Fin 64) :
    iblk m c 11 t (ix2 i k) = m ((c : Thread nD τ).loc main_arg10) (ix2 i k) := by
  blk_ext [iblk, V, idx t, row]

/-- The policy network's second bias. -/
theorem blk12 (k : Fin 64) :
    iblk m c 12 t (ix2 0 k) = m ((c : Thread nD τ).loc main_arg11) (ix1 k) := by
  blk_ext! [iblk, V, idx t, row]

/-- The actions' matrix. -/
theorem blk13 (i : Fin 64) (k : Fin 5) :
    iblk m c 13 t (ix2 i k) = m ((c : Thread nD τ).loc main_arg12) (ix2 i k) := by
  blk_ext [iblk, V, idx t, row]

/-- The actions' bias. -/
theorem blk14 (k : Fin 5) :
    iblk m c 14 t (ix2 0 k) = m ((c : Thread nD τ).loc main_arg13) (ix1 k) := by
  blk_ext! [iblk, V, idx t, row]

end Reads

/-- The logits of a device's arguments. -/
abbrev logitsK (c : Dev nD) : FVec Ideal Cert.ReferenceIdeal.S16384x5 .f32 :=
  Ref.logitsR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Every element's agent is a node. -/
def Agents (c : Dev nD) : Prop :=
  ∀ b : Fin 16384, ∃ p : Fin 50, m ((c : Thread nD τ).loc main_arg3) (ix2 b 0) = BitVec.ofNat 32 p.val

/-- The device's adjacency. -/
abbrev adjK (c : Dev nD) : FVec Ideal S16384x50x50 .f32 := m ((c : Thread nD τ).loc main_arg2)

/-- No row of an adjacency sums to the constant's opposite. -/
def Rows (c : Dev nD) : Prop :=
  ∀ (b : Fin 16384) (n : Fin 50), ∑ x : Fin 50, adjK m c (ix3 b n x) + eps ≠ 0

/-- The logits that a grid point computes for its block's rows are those elements' logits. -/
theorem point_logits (c : Dev nD) (ha : Agents m c) (hr : Rows m c) (t : Fin cfg0.N) (r : Fin 256) (k : Fin 5) :
    k0_pay1 (k0_pay7 (k0_pay5 (iblk m c 2 t)) (k0_pay6 (iblk m c 1 t) (iblk m c 4 t) (iblk m c 5 t)) (Scalar.ofBits .f32 0x00000000#32)
        (iblk m c 6 t) (iblk m c 7 t) (iblk m c 3 t) (iblk m c 0 t) (iblk m c 8 t) (iblk m c 9 t) (iblk m c 10 t))
      (iblk m c 11 t) (iblk m c 12 t) (iblk m c 13 t) (iblk m c 14 t) (ix2 r k) = logitsK m c (ix2 (row t r) k) := by
  obtain ⟨p, hp⟩ := ha (row t r)
  rw [pay1_apply, logitsK, Ref.logitsR_apply _ _ _ _ _ _ _ _ _ _ _ _ _ _ (row t r) k p hp]
  have h3 : iblk m c 3 t (ix2 r 0) = BitVec.ofNat 32 p.val := (blk3 m c t r).trans hp
  have h7 := fun k => pay7_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) r k p h3 fun n => by
      have := hr (row t r) n
      simp only [blk2]
      exact this
  simp only [h7, blk0, blk1, blk2, blk4, blk5, blk6, blk7, blk8, blk9, blk10, blk11, blk12, blk13, blk14]

/-- Where a block's row lies in an output. -/
theorem place (t : Fin cfg0.N) (y : S256x1.Idx) :
    ((View.whole main_v0_0).slice (win0_15.rect t)).emb y 0 = row t (y 0)
      ∧ ((View.whole main_v0_1).slice (win0_16.rect t)).emb y 0 = row t (y 0) := by
  constructor <;> (refine Fin.ext ?_; blk_simp [idx t, row])

/-- The block's first hidden layer reads whole blocks. -/
theorem pay8_eq (obs : Vec Ideal S256x48 .f32) (nodes : Vec Ideal S256x16x50 .f32) (adj : Vec Ideal S256x50x50 .f32)
    (ids : Vec Ideal S256x1 .i32) (w1 : Vec Ideal S16x64 .f32) (b1 : Vec Ideal S1x1x64 .f32) (w2 : Vec Ideal S64x64 .f32)
    (b2 : Vec Ideal S1x1x64 .f32) (wo : Vec Ideal S48x64 .f32) (wn : Vec Ideal S64x64 .f32) (c1 : Vec Ideal S1x64 .f32)
    (x11 : Vec Ideal S64x64 .f32) (x12 : Vec Ideal S1x64 .f32) (x13 : Vec Ideal S64x5 .f32) (x14 : Vec Ideal S1x5 .f32) :
    k0_pay8 obs nodes adj ids w1 b1 w2 b2 wo wn c1 x11 x12 x13 x14
      = k0_pay7 (k0_pay5 adj) (k0_pay6 nodes w1 b1) (Scalar.ofBits .f32 0x00000000#32) w2 b2 ids obs wo wn c1 := by
  unfold k0_pay8
  simp (disch := decide) only [View.ld_unit_lit']

/-- A column's index is its row's. -/
theorem col (y : S256x1.Idx) : y = ix2 (y 0) 0 := by
  funext a
  fin_cases a
  · rfl
  · exact Subsingleton.elim (α := Fin 1) _ _

/-- A grid point computes the actions of its block's rows. -/
theorem point15 (c : Dev nD) (ha : Agents m c) (hr : Rows m c) (t : Fin cfg0.N) (y : S256x1.Idx) :
    k0_pay3 (k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (iblk m c 11 t) (iblk m c 12 t) (iblk m c 13 t)
      (iblk m c 14 t) y = bestS fun k => logitsK m c (ix2 (row t (y 0)) k) := by
  rw [pay8_eq]
  conv_lhs => rw [col y]
  exact (pay3_apply _ _ _ _ _ (y 0)).trans (congrArg bestS (funext fun k => point_logits m c ha hr t (y 0) k))

/-- The first output: every element's action. -/
theorem final15 (c : Dev nD) (ha : Agents m c) (hr : Rows m c) :
    (dats m 0 c).arrAt 15 cfg0.N = fun i : S16384x1.Idx => bestS fun k => logitsK m c (ix2 (i 0) k) := by
  refine (dats m 0 c).arrAt_eq_of_covers 15 _ (by decide +kernel) fun t _ y => ?_
  blk_simp
  rw [after0_15]
  frame_out
  refine (point15 m c ha hr t y).trans ?_
  rw [← (place t y).1]

/-- A grid point computes the log-probabilities of its block's rows. -/
theorem point16 (c : Dev nD) (ha : Agents m c) (hr : Rows m c) (t : Fin cfg0.N) (y : S256x1.Idx) :
    k0_pay4 (k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (iblk m c 11 t) (iblk m c 12 t) (iblk m c 13 t)
      (iblk m c 14 t) y = logpS fun k => logitsK m c (ix2 (row t (y 0)) k) := by
  rw [pay8_eq]
  conv_lhs => rw [col y]
  exact (pay4_apply _ _ _ _ _ (y 0)).trans (congrArg logpS (funext fun k => point_logits m c ha hr t (y 0) k))

/-- The second output: every element's log-probability of its action. -/
theorem final16 (c : Dev nD) (ha : Agents m c) (hr : Rows m c) :
    (dats m 0 c).arrAt 16 cfg0.N = fun i : S16384x1.Idx => logpS fun k => logitsK m c (ix2 (i 0) k) := by
  refine (dats m 0 c).arrAt_eq_of_covers 16 _ (by decide +kernel) fun t _ y => ?_
  blk_simp
  rw [after0_16]
  frame_out
  refine (point16 m c ha hr t y).trans ?_
  rw [← (place t y).2]

end Cert.Proof.Ker

end
-- ==== Proof.Best.lean ====
/- The greatest logit: its first position is where both programs find their action, whichever way they look for it. -/
module

public import proofs.«01_k».proof.Proof.RefVal
public import Idealize.ShloMosaic.PureOps.Reduce

@[expose] public section

set_option maxRecDepth 16384

noncomputable section

namespace Cert.Proof

open Idealize.ShloMosaic

/-- Every logit is at most the greatest. -/
theorem le_topS (l : Fin 5 → EReal) (x : Fin 5) : l x ≤ topS l :=
  (Finset.le_fold_max (l x)).mpr (.inr ⟨x, Finset.mem_univ x, le_rfl⟩)

/-- The greatest logit is one of the logits, and there is a first position that has it. -/
theorem exists_first (l : Fin 5 → EReal) : ∃ p : Fin 5, l p = topS l ∧ ∀ q, q < p → l q ≠ topS l := by
  have hex : ∃ p, l p = topS l := by
    rcases (Finset.le_fold_max (s := Finset.univ) (f := l) (b := ⊥) (topS l)).mp le_rfl with h | ⟨x, _, h⟩
    · exact ⟨0, le_antisymm (le_topS l 0) (h.trans bot_le)⟩
    · exact ⟨x, le_antisymm (le_topS l x) h⟩
  have hne : (Finset.univ.filter fun p => l p = topS l).Nonempty := hex.imp fun p h => by simpa using h
  refine ⟨Finset.min' _ hne, by simpa using Finset.min'_mem _ hne, fun q hq e => ?_⟩
  exact absurd (Finset.min'_le (Finset.univ.filter fun p => l p = topS l) q (by simpa using e)) (not_le.mpr hq)

/-- The least word of the positions that hold a property, for the first such position. -/
theorem fold_first : ∀ (c : Fin 5 → Bool) (p : Fin 5), c p = true → (∀ q, q < p → c q = false) →
    Finset.univ.fold IntOp.minsi 2147483647#32 (fun x : Fin 5 => if c x = true then BitVec.ofNat 32 x.val else 5#32) = BitVec.ofNat 32 p.val := by
  decide +kernel

/-- The least position of the greatest logit is its first position. -/
theorem bestS_eq (l : Fin 5 → EReal) (p : Fin 5) (hp : l p = topS l) (hq : ∀ q, q < p → l q ≠ topS l) : bestS l = BitVec.ofNat 32 p.val := by
  classical
  have := fold_first (fun x => decide (l x = topS l)) p (by simpa using hp) (fun q h => by simpa using hq q h)
  simpa [bestS] using this

/-- Words of positions compare as the positions. -/
theorem slt_of_lt : ∀ p k : Fin 5, p < k → (BitVec.ofNat 32 p.val).slt (BitVec.ofNat 32 k.val) = true := by decide

namespace Ref

open Cert.ReferenceIdeal Cert.ReferenceIdeal.Gen

/-- The reduction keeps a row's index. -/
theorem drop_row (b : Fin 16384) (k : Fin 5) : reducesTo_S16384x5_S16384_d1.drop (ix2 b k) = ix1 b := by
  funext a
  match a with
  | ⟨0, _⟩ => rfl

/-- One comparison of the arg-max: the greater value, the lesser position of two equal ones. -/
theorem argmax_step (v w : EReal) (i j : BitVec 32) :
    reducer_argmax_f32_i32 (F := Ideal) (v, i) (w, j) = if w < v ∨ (v = w ∧ i.slt j) then (v, i) else (w, j) := by
  rcases lt_trichotomy w v with h | rfl | h
  · simp [reducer_argmax_f32_i32, Ideal.cmpf_def, Ideal.cmp, IntOp.cmpi, IntOp.ori, IntOp.andi, Scalar.select, h, h.ne']
  · cases hij : i.slt j <;>
      simp [reducer_argmax_f32_i32, Ideal.cmpf_def, Ideal.cmp, IntOp.cmpi, IntOp.ori, IntOp.andi, Scalar.select, hij]
  · simp [reducer_argmax_f32_i32, Ideal.cmpf_def, Ideal.cmp, IntOp.cmpi, IntOp.ori, IntOp.andi, Scalar.select, h.not_gt, h.ne]

/-- Of a pair that holds the greatest value at the least position and a pair that does not beat it, the former is kept. -/
theorem argmax_keep (M : EReal) (P : BitVec 32) (e : EReal × BitVec 32) (he : e = (M, P) ∨ e.1 < M ∨ (e.1 = M ∧ P.slt e.2)) :
    reducer_argmax_f32_i32 (F := Ideal) (M, P) e = (M, P) := by
  obtain ⟨w, j⟩ := e
  rw [argmax_step]
  rcases he with h | h | ⟨h, h'⟩
  · rw [h, ite_self]
  · rw [if_pos (.inl h)]
  · rw [if_pos (.inr ⟨h.symm, h'⟩)]

/-- Of a pair that does not beat it and a pair that holds the greatest value at the least position, the latter is kept. -/
theorem argmax_take (M : EReal) (P : BitVec 32) (e : EReal × BitVec 32) (he : e = (M, P) ∨ e.1 < M ∨ (e.1 = M ∧ P.slt e.2)) :
    reducer_argmax_f32_i32 (F := Ideal) e (M, P) = (M, P) := by
  obtain ⟨w, j⟩ := e
  rw [argmax_step]
  rcases he with h | h | ⟨h, h'⟩
  · rw [h, ite_self]
  · exact if_neg (by rintro (h' | ⟨h', _⟩); exacts [absurd h h'.not_gt, absurd h' h.ne])
  · refine if_neg ?_
    rintro (h'' | ⟨_, h''⟩)
    · exact absurd h h''.ne'
    · rw [BitVec.slt_iff_toInt_lt] at h' h''
      exact absurd h' h''.not_gt

/-- The arg-max over any list that holds the greatest pair and no other pair that beats it ends at that pair. -/
theorem foldl_argmax (M : EReal) (P : BitVec 32) (L : List (EReal × BitVec 32)) (s : EReal × BitVec 32)
    (hL : ∀ e ∈ s :: L, e = (M, P) ∨ e.1 < M ∨ (e.1 = M ∧ P.slt e.2)) (hm : (M, P) ∈ s :: L) :
    L.foldl (reducer_argmax_f32_i32 (F := Ideal)) s = (M, P) := by
  induction L generalizing s with
  | nil => exact (List.mem_singleton.mp hm).symm
  | cons e L ih =>
    rw [List.foldl_cons]
    have hs := hL s (by simp)
    have he := hL e (by simp)
    have hr : reducer_argmax_f32_i32 (F := Ideal) s e = s ∨ reducer_argmax_f32_i32 (F := Ideal) s e = e := by
      obtain ⟨v, i⟩ := s
      obtain ⟨w, j⟩ := e
      rw [argmax_step]
      exact ite_eq_or_eq _ _ _
    refine ih _ (fun x hx => ?_) ?_
    · rcases List.mem_cons.mp hx with rfl | hx
      · rcases hr with h | h <;> rw [h] <;> assumption
      · exact hL x (by simp [hx])
    · rcases List.mem_cons.mp hm with rfl | hm
      · rw [argmax_keep M P e he]
        exact List.mem_cons_self
      · rcases List.mem_cons.mp hm with rfl | hm
        · rw [argmax_take M P s hs]
          exact List.mem_cons_self
        · exact List.mem_cons_of_mem _ hm

/-- The arg-max of a row of logits, none of which is the least extended real, is the first position of the greatest. -/
theorem argR_apply (l : FVec Ideal S16384x5 .f32) (b : Fin 16384) (p : Fin 5) (hp : l (ix2 b p) = topS fun x => l (ix2 b x))
    (hq : ∀ q, q < p → l (ix2 b q) ≠ topS fun x => l (ix2 b x)) (hb : l (ix2 b p) ≠ ⊥) : argR l (ix2 b 0) = BitVec.ofNat 32 p.val := by
  pointwise [argR]
  rw [Ideal.argReduce_eq_reduce2, Host.reduce2_eq_foldl_fiber, foldl_argmax (l (ix2 b p)) (BitVec.ofNat 32 p.val)]
  · intro e he
    rcases List.mem_cons.mp he with rfl | he
    · refine .inr (.inl ?_)
      show Ideal.ofBits .f32 0xFF800000#32 < _
      rw [ofBits_bot]
      exact bot_lt_iff_ne_bot.mpr hb
    · obtain ⟨n, hn, rfl⟩ := List.mem_map.mp he
      simp only [List.mem_filter, List.mem_finRange, true_and, decide_eq_true_eq] at hn
      generalize S16384x5.rowMajor.symm n = i at hn
      obtain ⟨c, k, rfl⟩ : ∃ c k, i = ix2 c k := ⟨_, _, eq_ix2 i⟩
      rw [drop_row] at hn
      obtain rfl : c = b := congrFun hn 0
      have hi : iotaInDim S16384x5 32 1 (ix2 c k) = BitVec.ofNat 32 k.val := rfl
      rw [hi]
      rcases lt_trichotomy k p with h | rfl | h
      · exact .inr (.inl (lt_of_le_of_ne (by rw [hp]; exact le_topS (fun x => l (ix2 c x)) k) (by rw [hp]; exact hq k h)))
      · exact .inl rfl
      · rcases lt_or_eq_of_le (le_topS (fun x => l (ix2 c x)) k) with h' | h'
        · exact .inr (.inl (by rw [hp]; exact h'))
        · refine .inr (.inr ⟨by rw [hp]; exact h', ?_⟩)
          exact slt_of_lt p k h
  · refine List.mem_cons_of_mem _ (List.mem_map.mpr ⟨S16384x5.rowMajor (ix2 b p), ?_, ?_⟩)
    · simp [drop_row]
    · simp; rfl

/-- The log-softmax at the first position of the greatest logit, a real number. -/
theorem lsmR_best (l : FVec Ideal S16384x5 .f32) (b : Fin 16384) (p : Fin 5) (hp : l (ix2 b p) = topS fun x => l (ix2 b x))
    (hb : l (ix2 b p) ≠ ⊥) (ht : l (ix2 b p) ≠ ⊤) : lsmR l (ix2 b p) = logpS fun x => l (ix2 b x) := by
  rw [lsmR_apply, logpS, ← hp, EReal.sub_self ht hb]

end Ref

end Cert.Proof

end
-- ==== Proof.Finite.lean ====
/- Real numbers go in, real numbers come out: the logits are real where every argument is and no row sum plus the constant is
   zero. -/
module

public import proofs.«01_k».proof.Proof.RefVal

@[expose] public section

noncomputable section

namespace Cert.Proof

open Idealize.ShloMosaic

/-- An extended real that is a real number. -/
def IsReal (x : EReal) : Prop := ∃ r : ℝ, x = (r : EReal)

namespace IsReal

/-- A real number is not the least extended real. -/
theorem ne_bot {x : EReal} (h : IsReal x) : x ≠ ⊥ := by
  obtain ⟨r, rfl⟩ := h
  exact EReal.coe_ne_bot r

/-- A real number is not the greatest extended real. -/
theorem ne_top {x : EReal} (h : IsReal x) : x ≠ ⊤ := by
  obtain ⟨r, rfl⟩ := h
  exact EReal.coe_ne_top r

/-- What is bounded in size by the greatest extended real is a real number. -/
theorem of_abs {x : EReal} (h : max x (-x) < ⊤) : IsReal x := by
  induction x with
  | bot => simp at h
  | top => simp at h
  | coe r => exact ⟨r, rfl⟩

/-- Zero is a real number. -/
theorem zero : IsReal 0 := ⟨0, rfl⟩

/-- The constant is a real number. -/
theorem eps : IsReal eps := eps_real.imp fun _ h => h.1

/-- Sums of real numbers are real. -/
theorem add {x y : EReal} (hx : IsReal x) (hy : IsReal y) : IsReal (x + y) := by
  obtain ⟨r, rfl⟩ := hx
  obtain ⟨s, rfl⟩ := hy
  exact ⟨r + s, (EReal.coe_add r s).symm⟩

/-- Products of real numbers are real. -/
theorem mul {x y : EReal} (hx : IsReal x) (hy : IsReal y) : IsReal (x * y) := by
  obtain ⟨r, rfl⟩ := hx
  obtain ⟨s, rfl⟩ := hy
  exact ⟨r * s, (EReal.coe_mul r s).symm⟩

/-- The greater of two real numbers is real. -/
theorem max {x y : EReal} (hx : IsReal x) (hy : IsReal y) : IsReal (max x y) := by
  rcases max_choice x y with h | h <;> rw [h] <;> assumption

/-- Finite sums of real numbers are real. -/
theorem sum {ι : Type} [Fintype ι] {f : ι → EReal} (h : ∀ i, IsReal (f i)) : IsReal (∑ i, f i) :=
  Finset.sum_induction _ IsReal (fun _ _ => add) zero fun i _ => h i

/-- A quotient of real numbers, the divisor not zero. -/
theorem div {x y : EReal} (hx : IsReal x) (hy : IsReal y) (h0 : y ≠ 0) : IsReal (Ideal.div x y) := by
  rw [Ideal.div, if_neg h0]
  obtain ⟨s, rfl⟩ := hy
  exact hx.mul ⟨s⁻¹, (EReal.coe_inv s).symm⟩

end IsReal

/-- A row that does not sum to the constant's opposite is real after the division. -/
theorem normS_real {a : Fin 50 → Fin 50 → EReal} (ha : ∀ n k, IsReal (a n k)) (h : ∀ n, ∑ x, a n x + eps ≠ 0) (n k : Fin 50) :
    IsReal (normS a n k) :=
  (ha n k).div ((IsReal.sum (ha n)).add .eps) (h n)

/-- A dense layer of real numbers. -/
theorem layerS_real {K N : ℕ} {x : Fin K → EReal} {w : Fin K → Fin N → EReal} {b : Fin N → EReal} (hx : ∀ i, IsReal (x i))
    (hw : ∀ i k, IsReal (w i k)) (hb : ∀ k, IsReal (b k)) (k : Fin N) : IsReal (layerS x w b k) :=
  ((IsReal.sum fun i => (hx i).mul (hw i k)).add (hb k)).max .zero

/-- A weighted sum of neighbours. -/
theorem aggS_real {a : Fin 50 → Fin 50 → EReal} {h : Fin 50 → Fin 64 → EReal} (ha : ∀ n k, IsReal (a n k)) (hh : ∀ n k, IsReal (h n k))
    (n : Fin 50) (k : Fin 64) : IsReal (aggS a h n k) :=
  IsReal.sum fun x => (ha n x).mul (hh x k)

/-- The logits of an element whose agent is a node, where every argument is real and no row sum plus the constant is zero. -/
theorem logits_real {obs : FVec Ideal Cert.ReferenceIdeal.S16384x48 .f32} {nodes : FVec Ideal Cert.ReferenceIdeal.S16384x50x16 .f32}
    {adj : FVec Ideal Cert.ReferenceIdeal.S16384x50x50 .f32} {ids : IVec Cert.ReferenceIdeal.S16384x1 32}
    {w1 : FVec Ideal Cert.ReferenceIdeal.S16x64 .f32} {b1 : FVec Ideal Cert.ReferenceIdeal.S64 .f32}
    {w2 : FVec Ideal Cert.ReferenceIdeal.S64x64 .f32} {b2 : FVec Ideal Cert.ReferenceIdeal.S64 .f32}
    {m1 : FVec Ideal Cert.ReferenceIdeal.S112x64 .f32} {c1 : FVec Ideal Cert.ReferenceIdeal.S64 .f32}
    {m2 : FVec Ideal Cert.ReferenceIdeal.S64x64 .f32} {c2 : FVec Ideal Cert.ReferenceIdeal.S64 .f32}
    {wa : FVec Ideal Cert.ReferenceIdeal.S64x5 .f32} {ba : FVec Ideal Cert.ReferenceIdeal.S5 .f32}
    (hobs : ∀ i, IsReal (obs i)) (hnodes : ∀ i, IsReal (nodes i)) (hadj : ∀ i, IsReal (adj i)) (hw1 : ∀ i, IsReal (w1 i))
    (hb1 : ∀ i, IsReal (b1 i)) (hw2 : ∀ i, IsReal (w2 i)) (hb2 : ∀ i, IsReal (b2 i)) (hm1 : ∀ i, IsReal (m1 i))
    (hc1 : ∀ i, IsReal (c1 i)) (hm2 : ∀ i, IsReal (m2 i)) (hc2 : ∀ i, IsReal (c2 i)) (hwa : ∀ i, IsReal (wa i))
    (hba : ∀ i, IsReal (ba i)) (b : Fin 16384) (hrow : ∀ n : Fin 50, ∑ x : Fin 50, adj (ix3 b n x) + eps ≠ 0)
    (hid : ∃ p : Fin 50, ids (ix2 b 0) = BitVec.ofNat 32 p.val) (k : Fin 5) :
    IsReal (Ref.logitsR obs nodes adj ids w1 b1 w2 b2 m1 c1 m2 c2 wa ba (ix2 b k)) := by
  obtain ⟨p, hp⟩ := hid
  rw [Ref.logitsR_apply _ _ _ _ _ _ _ _ _ _ _ _ _ _ b k p hp]
  have hn := normS_real (a := fun n k => adj (ix3 b n k)) (fun _ _ => hadj _) hrow
  have h1 := aggS_real hn fun n => layerS_real (x := fun i => nodes (ix3 b n i)) (w := fun i k => w1 (ix2 i k))
    (b := fun k => b1 (ix1 k)) (fun _ => hnodes _) (fun _ _ => hw1 _) fun _ => hb1 _
  have h2 := aggS_real hn fun n => layerS_real (w := fun i k => w2 (ix2 i k)) (b := fun k => b2 (ix1 k)) (h1 n) (fun _ _ => hw2 _)
    fun _ => hb2 _
  refine (IsReal.sum fun i => (layerS_real (fun x => IsReal.max (IsReal.add (IsReal.add (IsReal.sum fun y => (hobs _).mul (hm1 _))
    (IsReal.sum fun y => (h2 p y).mul (hm1 _))) (hc1 _)) .zero) (fun _ _ => hm2 _) (fun _ => hc2 _) i).mul (hwa _)).add (hba _)

end Cert.Proof

end
-- ==== Proof.Pre.lean ====
/- What the precondition says of the arguments: every agent is a node, no row sum plus the constant is zero, every floating
   entry is a real number. -/
module

public import proofs.«01_k».proof.Proof.Gen.Pre_in_domain
public import proofs.«01_k».proof.Pre_in_domain
public import proofs.«01_k».proof.Proof.Finite

@[expose] public section

noncomputable section

namespace Cert.Proof.Pre

open Cert.Pre_in_domain Cert.Pre_in_domain.Facts Idealize.ShloMosaic

/-- A truth value written as a bit is one where it holds. -/
theorem of_bit {p : Prop} [Decidable p] (h : BitVec.ofBool (decide p) = 1#1) : p := by
  by_contra hn
  simp [hn] at h

/-- An array smaller in size than infinity everywhere holds real numbers. -/
theorem real_of {s : Shape} (x : FVec Ideal s .f32) (hb : S_.BroadcastsInDim s ![])
    (e : cmpf .olt (Host.absf x) (broadcastInDim s ![] hb (constant S_ .f32 0x7F800000#32)) = fun _ => 1#1) (i : s.Idx) :
    IsReal (x i) := by
  have h := congrFun e i
  change BitVec.ofBool (decide (max (x i) (-(x i)) < Ideal.ofBits .f32 0x7F800000#32)) = 1#1 at h
  rw [ofBits_top] at h
  exact .of_abs (of_bit h)

/-- A word from 0 up to 50, signed, is a node's. -/
theorem node_of (w : BitVec 32) (h : IntOp.andi (IntOp.cmpi .sge w 0#32) (IntOp.cmpi .slt w 50#32) = 1#1) :
    ∃ p : Fin 50, w = BitVec.ofNat 32 p.val := by
  have h' : (0#32).sle w = true ∧ w.slt 50#32 = true := by
    cases h1 : (0#32).sle w <;> cases h2 : w.slt 50#32 <;> simp [IntOp.andi, IntOp.cmpi, h1, h2] at h ⊢
  have hlt : w.toNat < 50 := by
    obtain ⟨h1, h2⟩ := h'
    have := w.isLt
    simp only [BitVec.sle, BitVec.slt, BitVec.toInt_eq_toNat_cond, decide_eq_true_eq] at h1 h2
    norm_num at h1 h2
    split at h1 <;> split at h2 <;> omega
  exact ⟨⟨w.toNat, hlt⟩, by simp⟩

variable [Facts]

/-- The first part: every agent is a node. -/
theorem nodes_of (ids : IVec S16384x1 32)
    (e : andi (cmpi .sge ids (broadcastInDim S16384x1 ![] bcast_S_S16384x1 (constantI S_ 32 0#32)))
      (cmpi .slt ids (broadcastInDim S16384x1 ![] bcast_S_S16384x1 (constantI S_ 32 50#32))) = fun _ => 1#1) (b : Fin 16384) :
    ∃ p : Fin 50, ids (ix2 b 0) = BitVec.ofNat 32 p.val :=
  node_of _ (congrFun e (ix2 b 0))

/-- The second part: no row sum plus the constant is zero. -/
theorem rows_of (adj : FVec Ideal S16384x50x50 .f32)
    (e : cmpf .une (addf (broadcastInDim S16384x50x1 ![0, 1] bcast_S16384x50_S16384x50x1_0_1
      (Host.reduceAdd adj (constant S_ .f32 0x00000000#32) reducesTo_S16384x50x50_S16384x50_d2 h_S_))
      (broadcastInDim S16384x50x1 ![] bcast_S_S16384x50x1 (constant S_ .f32 0x358637BD#32)))
      (broadcastInDim S16384x50x1 ![] bcast_S_S16384x50x1 (constant S_ .f32 0x00000000#32)) = fun _ => 1#1)
    (b : Fin 16384) (n : Fin 50) : ∑ x : Fin 50, adj (ix3 b n x) + eps ≠ 0 := by
  have h := congrFun e (ix3 b n 0)
  revert h
  pointwise
  intro h
  exact of_bit h

end Cert.Proof.Pre

end
-- ==== Proof.Equal.lean ====
/- The kernel's two outputs are the reference's two results: of real logits, the least position of the greatest is the
   arg-max, and the greatest one's log-probability is the log-softmax at that position. -/
module

public import proofs.«01_k».proof.Proof.Array
public import proofs.«01_k».proof.Proof.Best
public import proofs.«01_k».proof.Proof.Pre
public import proofs.«01_k».proof.Defs

@[expose] public section

noncomputable section

namespace Cert.Proof

open Idealize.ShloMosaic Idealize.ShloMosaic.TcCoe Cert.ReferenceIdeal

/-- A column's index is its row's. -/
theorem col_idx (i : S16384x1.Idx) : i = ix2 (i 0) 0 := by
  funext a
  fin_cases a
  · rfl
  · exact Subsingleton.elim (α := Fin 1) _ _

/-- The arg-max of real logits is the least position of the greatest. -/
theorem actions_eq (l : FVec Ideal S16384x5 .f32) (hl : ∀ b k, IsReal (l (ix2 b k))) :
    (fun i : S16384x1.Idx => bestS fun k => l (ix2 (i 0) k)) = Ref.argR l := by
  funext i
  obtain ⟨p, hp, hq⟩ := exists_first fun k => l (ix2 (i 0) k)
  rw [bestS_eq _ p hp hq]
  conv_rhs => rw [col_idx i]
  exact (Ref.argR_apply l (i 0) p hp hq (hl _ _).ne_bot).symm

/-- The log-softmax of real logits at the arg-max is the greatest one's log-probability. -/
theorem logps_eq (l : FVec Ideal S16384x5 .f32) (hl : ∀ b k, IsReal (l (ix2 b k))) :
    (fun i : S16384x1.Idx => logpS fun k => l (ix2 (i 0) k)) = Ref.takeR (Ref.lsmR l) (Ref.argR l) := by
  funext i
  obtain ⟨p, hp, hq⟩ := exists_first fun k => l (ix2 (i 0) k)
  conv_rhs => rw [col_idx i]
  exact ((Ref.takeR_apply _ _ (i 0) p (Ref.argR_apply l (i 0) p hp hq (hl _ _).ne_bot)).trans
    (Ref.lsmR_best l (i 0) p hp (hl _ _).ne_bot (hl _ _).ne_top)).symm

variable [Cert.Pre_in_domain.Facts]
variable (m : (ℓ : Loc Cert.KernelIdeal.nD Cert.KernelIdeal.τ Cert.KernelIdeal.sig) → Buf (Elt Ideal) ℓ)

/-- Under the precondition every agent is a node. -/
theorem agents (h : Cert.Pre_KernelIdeal_in_domain m) (c : Dev Cert.KernelIdeal.nD) : Ker.Agents m c :=
  Pre.nodes_of _ (h c).1

/-- Under the precondition no row sum plus the constant is zero. -/
theorem rows (h : Cert.Pre_KernelIdeal_in_domain m) (c : Dev Cert.KernelIdeal.nD) : Ker.Rows m c :=
  Pre.rows_of _ (h c).2.1

/-- Under the precondition every logit is a real number. -/
theorem logits (h : Cert.Pre_KernelIdeal_in_domain m) (c : Dev Cert.KernelIdeal.nD) (b : Fin 16384) (k : Fin 5) :
    IsReal (Ker.logitsK m c (ix2 b k)) := by
  obtain ⟨-, -, h0, h1, h2, h4, h5, h6, h7, h8, h9, h10, h11, h12, h13⟩ := h c
  exact logits_real (Pre.real_of _ _ h0) (Pre.real_of _ _ h1) (Pre.real_of _ _ h2) (Pre.real_of _ _ h4) (Pre.real_of _ _ h5)
    (Pre.real_of _ _ h6) (Pre.real_of _ _ h7) (Pre.real_of _ _ h8) (Pre.real_of _ _ h9) (Pre.real_of _ _ h10)
    (Pre.real_of _ _ h11) (Pre.real_of _ _ h12) (Pre.real_of _ _ h13) b (rows m h c b) (agents m h c b) k

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_in_domain
public import proofs.«01_k».proof.Proof.Equal
public import proofs.«01_k».proof.Proof.RefRun
public import Idealize.ShloMosaic.Adequacy
public import Idealize.ShloMosaic.Init

@[expose] public section

noncomputable section

namespace Cert.Proof

open Idealize.ShloMosaic Idealize.ShloMosaic.TcCoe Idealize.SL.Sem

/-- The reference's program has no semaphore. -/
theorem ref_sems (f : GSem Cert.ReferenceIdeal.nD Cert.ReferenceIdeal.τ Cert.ReferenceIdeal.sig → ℤ) : f = fun _ => 0 :=
  funext fun g => match g with
    | (_, .reg s) => s.elim0
    | (_, .dma s) => s.elim0

/-- The reference runs, keeps its arguments, and ends with every counter at zero. -/
theorem ref_frame : Cert.quiescent_ReferenceIdeal := fun m ρ _ =>
  (θ_run Cert.ReferenceIdeal.defs _ _).mono (fun r h => And.intro (fun c => (h c).2.2) (ref_sems r.2.sem)) (Ref.run m ρ)

/-- From arguments in the domain the kernel's two results are the reference's. -/
theorem value [Cert.Pre_in_domain.Facts] : Cert.algebraic_KernelIdeal_ReferenceIdeal_pre_in_domain := by
  intro m g m' g' hpre hargs
  have hl : ∀ c, Ref.logitsV (StableHlo.launchContents m' c) = Ker.logitsK m c := fun c => by
    obtain ⟨h0, h1, h2, h3, h4, h5, h6, h7, h8, h9, h10, h11, h12, h13⟩ := hargs c
    unfold Ref.logitsV Ker.logitsK
    congr 1
  refine ⟨fun c => Ref.argR (Ker.logitsK m c), fun c => Ref.takeR (Ref.lsmR (Ker.logitsK m c)) (Ref.argR (Ker.logitsK m c)),
    (θ_run Cert.KernelIdeal.defs _ _).mono (fun _ h c => ?_) (Cert.KernelIdeal.Value.run_blocks m g),
    (θ_run Cert.ReferenceIdeal.defs _ _).mono (fun _ h c => ?_) (Ref.run m' g')⟩
  · obtain ⟨h15, h16, hk⟩ := h c
    refine ⟨h15.trans ((Ker.final15 m c (agents m hpre c) (rows m hpre c)).trans (actions_eq _ (logits m hpre c))),
      h16.trans ((Ker.final16 m c (agents m hpre c) (rows m hpre c)).trans (logps_eq _ (logits m hpre c))), hk⟩
  · have := h c
    rw [hl c] at this
    exact this

/-- The five claims. -/
theorem claim : Cert.Claim :=
  ⟨Cert.Kernel.Gen.facts, Cert.KernelIdeal.Gen.facts, Cert.ReferenceIdeal.Gen.facts, Cert.Pre_in_domain.Gen.facts,
    fun m ρ _ => Cert.Kernel.Gen.frame m ρ, fun m ρ _ => Cert.KernelIdeal.Gen.frame m ρ,
    fun m ρ _ => Cert.KernelIdeal.Gen.frame m ρ, ref_frame, fun m ρ _ => ref_frame m ρ trivial, trivial, value⟩

end Cert.Proof

end
